-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_sorted_windows_finite_qkv [hPre_sorted_windows_finite_qkv : Cert.Pre_sorted_windows_finite_qkv.Facts] (m : (ℓ : Loc Cert.KernelIdeal.nD Cert.KernelIdeal.τ Cert.KernelIdeal.sig) → Buf (Elt Ideal) ℓ) : Prop :=
  ∀ c : Dev Cert.KernelIdeal.nD,
    (Cert.Pre_sorted_windows_finite_qkv.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sorted_windows_finite_qkv [hPre_sorted_windows_finite_qkv : Cert.Pre_sorted_windows_finite_qkv.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sorted_windows_finite_qkv.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_sorted_windows_finite_qkv [hKernelIdeal : Cert.KernelIdeal.Facts] [hPre_sorted_windows_finite_qkv : Cert.Pre_sorted_windows_finite_qkv.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sorted_windows_finite_qkv m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_sorted_windows_finite_qkv [hReferenceIdeal : Cert.ReferenceIdeal.Facts] [hPre_sorted_windows_finite_qkv : Cert.Pre_sorted_windows_finite_qkv.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sorted_windows_finite_qkv m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_sorted_windows_finite_qkv [hKernelIdeal : Cert.KernelIdeal.Facts] [hReferenceIdeal : Cert.ReferenceIdeal.Facts] [hPre_sorted_windows_finite_qkv : Cert.Pre_sorted_windows_finite_qkv.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sorted_windows_finite_qkv m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v215) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_sorted_windows_finite_qkv : Cert.Pre_sorted_windows_finite_qkv.Facts),
    quiescent_Kernel (hKernel := hKernel)
    ∧ quiescent_KernelIdeal (hKernelIdeal := hKernelIdeal)
    ∧ quiescent_KernelIdeal_pre_sorted_windows_finite_qkv (hKernelIdeal := hKernelIdeal) (hPre_sorted_windows_finite_qkv := hPre_sorted_windows_finite_qkv)
    ∧ quiescent_ReferenceIdeal (hReferenceIdeal := hReferenceIdeal)
    ∧ quiescent_ReferenceIdeal_pre_sorted_windows_finite_qkv (hReferenceIdeal := hReferenceIdeal) (hPre_sorted_windows_finite_qkv := hPre_sorted_windows_finite_qkv)
    ∧ preserves_Kernel_KernelIdeal
    ∧ algebraic_KernelIdeal_ReferenceIdeal_pre_sorted_windows_finite_qkv (hKernelIdeal := hKernelIdeal) (hReferenceIdeal := hReferenceIdeal) (hPre_sorted_windows_finite_qkv := hPre_sorted_windows_finite_qkv)
-- ==== Pre_sorted_windows_finite_qkv.lean ====
abbrev S8192x512 : Shape := ⟨2, ![8192, 512]⟩
abbrev S512x1536 : Shape := ⟨2, ![512, 1536]⟩
abbrev S512x512 : Shape := ⟨2, ![512, 512]⟩
abbrev S512 : Shape := ⟨1, ![512]⟩
abbrev S8192 : Shape := ⟨1, ![8192]⟩
abbrev S256 : Shape := ⟨1, ![256]⟩
abbrev S1 : Shape := ⟨1, ![1]⟩
abbrev S8191 : Shape := ⟨1, ![8191]⟩
abbrev S_ : Shape := ⟨0, ![]⟩
abbrev S8192x1 : Shape := ⟨2, ![8192, 1]⟩
abbrev S1536x512 : Shape := ⟨2, ![1536, 512]⟩
abbrev S9728x512 : Shape := ⟨2, ![9728, 512]⟩

class Facts : Prop where
  slices_S8192_S1_0 : S8192.Slices ![0] S1
  slices_S8192_S8191_0 : S8192.Slices ![0] S8191
  concatenates_S1_S8191_S8192_d0 : Shape.Concatenates [S1, S8191] S8192 0
  bcast_S_S8192 : S_.BroadcastsInDim S8192 (![] : Fin 0 → Fin S8192.rank)
  bcast_S_S8192x512 : S_.BroadcastsInDim S8192x512 (![] : Fin 0 → Fin S8192x512.rank)
  bcast_S8192_S8192x1_0 : S8192.BroadcastsInDim S8192x1 (![0] : Fin 1 → Fin S8192x1.rank)
  bcast_S8192x1_S8192x512_0_1 : S8192x1.BroadcastsInDim S8192x512 (![0, 1] : Fin 2 → Fin S8192x512.rank)
  transposes_S512x1536_S1536x512_1_0 : S512x1536.Transposes [1, 0] S1536x512
  bcast_S_S1536x512 : S_.BroadcastsInDim S1536x512 (![] : Fin 0 → Fin S1536x512.rank)
  concatenates_S8192x512_S1536x512_S9728x512_d0 : Shape.Concatenates [S8192x512, S1536x512] S9728x512 0

variable [Facts]

def fn_part1 {F : FTy → Type} [FloatOps F] (main_v15 : IVec S8192x512 1) (main_v19 : IVec S1536x512 1) : IVec S9728x512 1 :=
  let main_v20 : IVec S9728x512 1 := (fun a b => concatenate S9728x512 0 [⟨S8192x512, a⟩, ⟨S1536x512, b⟩] concatenates_S8192x512_S1536x512_S9728x512_d0) main_v15 main_v19
  main_v20

def fn {F : FTy → Type} [FloatOps F] (main_arg0 : FVec F S8192x512 .f32) (main_arg1 : FVec F S512x1536 .f32) (main_arg2 : FVec F S512x512 .f32) (main_arg3 : FVec F S512 .f32) (main_arg4 : IVec S8192 32) (main_arg5 : IVec S256 32) (main_arg6 : IVec S256 32) : IVec S9728x512 1 :=
  let main_v0 : IVec S1 32 := (extractStridedSlice S1 ![0] · slices_S8192_S1_0) main_arg4
  let main_v1 : IVec S8191 32 := (extractStridedSlice S8191 ![0] · slices_S8192_S8191_0) main_arg4
  let main_v2 : IVec S8192 32 := (fun a b => concatenate S8192 0 [⟨S1, a⟩, ⟨S8191, b⟩] concatenates_S1_S8191_S8192_d0) main_v0 main_v1
  let main_c : IVec S_ 32 := constantI S_ 32 0#32
  let main_v3 : IVec S8192 32 := broadcastInDim S8192 ![] bcast_S_S8192 main_c
  let main_v4 : IVec S8192 1 := cmpi .sge main_arg4 main_v3
  let main_c_0 : IVec S_ 32 := constantI S_ 32 256#32
  let main_v5 : IVec S8192 32 := broadcastInDim S8192 ![] bcast_S_S8192 main_c_0
  let main_v6 : IVec S8192 1 := cmpi .slt main_arg4 main_v5
  let main_v7 : IVec S8192 1 := andi main_v4 main_v6
  let main_v8 : IVec S8192 1 := cmpi .sge main_arg4 main_v2
  let main_v9 : IVec S8192 1 := andi main_v7 main_v8
  let main_v10 : FVec F S8192x512 .f32 := Host.absf main_arg0
  let main_cst : FVec F S_ .f32 := constant S_ .f32 0x7F800000#32
  let main_v11 : FVec F S8192x512 .f32 := broadcastInDim S8192x512 ![] bcast_S_S8192x512 main_cst
  let main_v12 : IVec S8192x512 1 := cmpf .olt main_v10 main_v11
  let main_v13 : IVec S8192x1 1 := broadcastInDim S8192x1 ![0] bcast_S8192_S8192x1_0 main_v9
  let main_v14 : IVec S8192x512 1 := broadcastInDim S8192x512 ![0, 1] bcast_S8192x1_S8192x512_0_1 main_v13
  let main_v15 : IVec S8192x512 1 := andi main_v12 main_v14
  let main_v16 : FVec F S1536x512 .f32 := (transpose S1536x512 [1, 0] · transposes_S512x1536_S1536x512_1_0) main_arg1
  let main_v17 : FVec F S1536x512 .f32 := Host.absf main_v16
  let main_cst_1 : FVec F S_ .f32 := constant S_ .f32 0x7F800000#32
  let main_v18 : FVec F S1536x512 .f32 := broadcastInDim S1536x512 ![] bcast_S_S1536x512 main_cst_1
  let main_v19 : IVec S1536x512 1 := cmpf .olt main_v17 main_v18
  fn_part1 (F := F) main_v15 main_v19
-- ==== Kernel.lean ====
abbrev S8192x512 : Shape := ⟨2, ![8192, 512]⟩
abbrev S512x1536 : Shape := ⟨2, ![512, 1536]⟩
abbrev S512x512 : Shape := ⟨2, ![512, 512]⟩
abbrev S512 : Shape := ⟨1, ![512]⟩
abbrev S8192 : Shape := ⟨1, ![8192]⟩
abbrev S256 : Shape := ⟨1, ![256]⟩
abbrev S16x1x512 : Shape := ⟨3, ![16, 1, 512]⟩
abbrev S16x512x1 : Shape := ⟨3, ![16, 512, 1]⟩
abbrev S8192x1024 : Shape := ⟨2, ![8192, 1024]⟩
abbrev S16x512x128 : Shape := ⟨3, ![16, 512, 128]⟩
abbrev S1x1x512 : Shape := ⟨3, ![1, 1, 512]⟩
abbrev S1x512x1 : Shape := ⟨3, ![1, 512, 1]⟩
abbrev S512x1024 : Shape := ⟨2, ![512, 1024]⟩
abbrev S1x512x128 : Shape := ⟨3, ![1, 512, 128]⟩
abbrev S512x128 : Shape := ⟨2, ![512, 128]⟩
abbrev S512x1 : Shape := ⟨2, ![512, 1]⟩
abbrev S512x63 : Shape := ⟨2, ![512, 63]⟩
abbrev S512x64 : Shape := ⟨2, ![512, 64]⟩
abbrev S1x1x1 : Shape := ⟨3, ![1, 1, 1]⟩
abbrev S1x1 : Shape := ⟨2, ![1, 1]⟩
abbrev S64x128 : Shape := ⟨2, ![64, 128]⟩
abbrev S1x512 : Shape := ⟨2, ![1, 512]⟩
abbrev S1x64x128 : Shape := ⟨3, ![1, 64, 128]⟩

abbrev nBuf : Space → Nat
  | .hbm => 16
  | .vmem => 33
  | .smem => 0
  | _ => 0

abbrev bufTy : (tb : Table) → Fin (tcTables nBuf tb) → BufTy
  | .hbm, ⟨0, _⟩ => ⟨S8192x512, .f32⟩
  | .hbm, ⟨1, _⟩ => ⟨S512x1536, .f32⟩
  | .hbm, ⟨2, _⟩ => ⟨S512x512, .f32⟩
  | .hbm, ⟨3, _⟩ => ⟨S512, .f32⟩
  | .hbm, ⟨4, _⟩ => ⟨S8192, .i32⟩
  | .hbm, ⟨5, _⟩ => ⟨S256, .i32⟩
  | .hbm, ⟨6, _⟩ => ⟨S256, .i32⟩
  | .hbm, ⟨7, _⟩ => ⟨S16x1x512, .i32⟩
  | .hbm, ⟨8, _⟩ => ⟨S16x512x1, .i32⟩
  | .hbm, ⟨9, _⟩ => ⟨S8192x512, .bf16⟩
  | .hbm, ⟨10, _⟩ => ⟨S512x1536, .bf16⟩
  | .hbm, ⟨11, _⟩ => ⟨S8192x1024, .bf16⟩
  | .hbm, ⟨12, _⟩ => ⟨S8192x1024, .bf16⟩
  | .hbm, ⟨13, _⟩ => ⟨S16x512x128, .bf16⟩
  | .hbm, ⟨14, _⟩ => ⟨S1x512, .f32⟩
  | .hbm, ⟨15, _⟩ => ⟨S8192x512, .f32⟩
  | .local _ .vmem, ⟨0, _⟩ => ⟨S1x1x512, .i32⟩
  | .local _ .vmem, ⟨1, _⟩ => ⟨S1x1x512, .i32⟩
  | .local _ .vmem, ⟨2, _⟩ => ⟨S1x1x512, .i32⟩
  | .local _ .vmem, ⟨3, _⟩ => ⟨S1x1x512, .i32⟩
  | .local _ .vmem, ⟨4, _⟩ => ⟨S1x512x1, .i32⟩
  | .local _ .vmem, ⟨5, _⟩ => ⟨S1x512x1, .i32⟩
  | .local _ .vmem, ⟨6, _⟩ => ⟨S512x512, .bf16⟩
  | .local _ .vmem, ⟨7, _⟩ => ⟨S512x512, .bf16⟩
  | .local _ .vmem, ⟨8, _⟩ => ⟨S512x1536, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S1x512x128, .bf16⟩
  | .local _ .vmem, ⟨14, _⟩ => ⟨S1x512x128, .bf16⟩
  | .local _ .vmem, ⟨15, _⟩ => ⟨S512x128, .f32⟩
  | .local _ .vmem, ⟨16, _⟩ => ⟨S1x1x512, .i32⟩
  | .local _ .vmem, ⟨17, _⟩ => ⟨S1x1x512, .i32⟩
  | .local _ .vmem, ⟨18, _⟩ => ⟨S1x1x512, .i32⟩
  | .local _ .vmem, ⟨19, _⟩ => ⟨S1x1x512, .i32⟩
  | .local _ .vmem, ⟨20, _⟩ => ⟨S1x512x1, .i32⟩
  | .local _ .vmem, ⟨21, _⟩ => ⟨S1x512x1, .i32⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | .local _ .vmem, ⟨25, _⟩ => ⟨S512x1024, .bf16⟩
  | .local _ .vmem, ⟨26, _⟩ => ⟨S1x512x128, .bf16⟩
  | .local _ .vmem, ⟨27, _⟩ => ⟨S1x512x128, .bf16⟩
  | .local _ .vmem, ⟨28, _⟩ => ⟨S512x512, .f32⟩
  | .local _ .vmem, ⟨29, _⟩ => ⟨S1x512, .f32⟩
  | .local _ .vmem, ⟨30, _⟩ => ⟨S512x512, .f32⟩
  | .local _ .vmem, ⟨31, _⟩ => ⟨S512x512, .f32⟩
  | .local _ .vmem, ⟨32, _⟩ => ⟨S512x128, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg7_0 : Ref sig .tc := ⟨.vmem, 29, rfl⟩
abbrev cc1_stg8_0 : Ref sig .tc := ⟨.vmem, 30, rfl⟩
abbrev cc1_stg8_1 : Ref sig .tc := ⟨.vmem, 31, rfl⟩
abbrev cc1_scratch0 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem2_1 : DmaSem sig := 20
abbrev cc1_sem3_0 : DmaSem sig := 21
abbrev cc1_sem3_1 : DmaSem sig := 22
abbrev cc1_sem4_0 : DmaSem sig := 23
abbrev cc1_sem4_1 : DmaSem sig := 24
abbrev cc1_sem5_0 : DmaSem sig := 25
abbrev cc1_sem5_1 : DmaSem sig := 26
abbrev cc1_sem6_0 : DmaSem sig := 27
abbrev cc1_sem7_0 : DmaSem sig := 28
abbrev cc1_sem8_0 : DmaSem sig := 29
abbrev cc1_sem8_1 : DmaSem sig := 30

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c1_i32 : BitVec 32 := 1#32
  let v0 : BitVec 32 := Scalar.addi arg0 c1_i32
  let c15_i32 : BitVec 32 := 15#32
  let v1 : BitVec 32 := Scalar.minsi v0 c15_i32
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![16], ![false]⟩

def cc1_transform_0 (i : grid1.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![v0.toNat, c0_i32.toNat, c0_i32_0.toNat]

def cc1_transform_1 (i : grid1.Coords) : Fin 3 → Nat :=
  let arg0 : BitVec 32 := BitVec.ofNat 32 (i 0).val
  let c14_i32 : BitVec 32 := 14#32
  let v0 : BitVec 32 := Scalar.subi c14_i32 arg0
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc1_transform_2 (i : grid1.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![v0.toNat, c0_i32.toNat, c0_i32_0.toNat]

def cc1_transform_3 (i : grid1.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc1_transform_4 (i : grid1.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc1_transform_5 (i : grid1.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![v0.toNat, c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

abbrev stage1_0 : Fin 2 → Memref sig .tc .vmem S1x1x512 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1x512 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x512x1 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x512x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S512x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x512 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S512x512 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]
-- ==== ReferenceIdeal.lean ====
abbrev S8192x512 : Shape := ⟨2, ![8192, 512]⟩
abbrev S512x1536 : Shape := ⟨2, ![512, 1536]⟩
abbrev S512x512 : Shape := ⟨2, ![512, 512]⟩
abbrev S512 : Shape := ⟨1, ![512]⟩
abbrev S8192 : Shape := ⟨1, ![8192]⟩
abbrev S256 : Shape := ⟨1, ![256]⟩
abbrev S8192x1536 : Shape := ⟨2, ![8192, 1536]⟩
abbrev S8192x8x64 : Shape := ⟨3, ![8192, 8, 64]⟩
abbrev S_ : Shape := ⟨0, ![]⟩
abbrev S256x8x64 : Shape := ⟨3, ![256, 8, 64]⟩
abbrev S8192x1 : Shape := ⟨2, ![8192, 1]⟩
abbrev S8192x8 : Shape := ⟨2, ![8192, 8]⟩
abbrev S8192x8x1 : Shape := ⟨3, ![8192, 8, 1]⟩
abbrev S8192x1x64 : Shape := ⟨3, ![8192, 1, 64]⟩
abbrev S8192x64 : Shape := ⟨2, ![8192, 64]⟩
abbrev S8192x64x1 : Shape := ⟨3, ![8192, 64, 1]⟩
abbrev S8192x64x64 : Shape := ⟨3, ![8192, 64, 64]⟩
abbrev S256x64x64 : Shape := ⟨3, ![256, 64, 64]⟩
abbrev S1x512 : Shape := ⟨2, ![1, 512]⟩

abbrev nBuf : Space → Nat
  | .hbm => 256
  | .vmem => 0
  | .smem => 0
  | _ => 0

abbrev hbmTy0_0 (i : Nat) : BufTy := match i % 128 with
  | 0 => ⟨S8192x512, .f32⟩
  | 1 => ⟨S512x1536, .f32⟩
  | 2 => ⟨S512x512, .f32⟩
  | 3 => ⟨S512, .f32⟩
  | 4 => ⟨S8192, .i32⟩
  | 5 => ⟨S256, .i32⟩
  | 6 => ⟨S256, .i32⟩
  | 7 => ⟨S8192x1536, .f32⟩
  | 8 => ⟨S8192x512, .f32⟩
  | 9 => ⟨S8192x8x64, .f32⟩
  | 10 => ⟨S_, .f32⟩
  | 11 => ⟨S8192x8x64, .f32⟩
  | 12 => ⟨S8192x8x64, .f32⟩
  | 13 => ⟨S8192x512, .f32⟩
  | 14 => ⟨S8192x8x64, .f32⟩
  | 15 => ⟨S_, .f32⟩
  | 16 => ⟨S8192x8x64, .f32⟩
  | 17 => ⟨S8192x8x64, .f32⟩
  | 18 => ⟨S8192x512, .f32⟩
  | 19 => ⟨S8192x8x64, .f32⟩
  | 20 => ⟨S_, .f32⟩
  | 21 => ⟨S256x8x64, .f32⟩
  | 22 => ⟨S8192x1, .i32⟩
  | 23 => ⟨S256x8x64, .f32⟩
  | 24 => ⟨S_, .i32⟩
  | 25 => ⟨S8192, .i32⟩
  | 26 => ⟨S8192, .i1⟩
  | 27 => ⟨S_, .i32⟩
  | 28 => ⟨S8192, .i32⟩
  | 29 => ⟨S8192, .i32⟩
  | 30 => ⟨S8192, .i32⟩
  | 31 => ⟨S8192x1, .i32⟩
  | 32 => ⟨S8192x8x64, .f32⟩
  | 33 => ⟨S8192x8x64, .f32⟩
  | 34 => ⟨S_, .f32⟩
  | 35 => ⟨S8192x8, .f32⟩
  | 36 => ⟨S8192x8x1, .f32⟩
  | 37 => ⟨S8192x1x64, .f32⟩
  | 38 => ⟨S8192x64, .f32⟩
  | 39 => ⟨S8192x64x1, .f32⟩
  | 40 => ⟨S8192x1x64, .f32⟩
  | 41 => ⟨S8192x64, .f32⟩
  | 42 => ⟨S8192x1x64, .f32⟩
  | 43 => ⟨S8192x64x64, .f32⟩
  | 44 => ⟨S8192x64x64, .f32⟩
  | 45 => ⟨S8192x64x64, .f32⟩
  | 46 => ⟨S_, .f32⟩
  | 47 => ⟨S256x64x64, .f32⟩
  | 48 => ⟨S8192x1, .i32⟩
  | 49 => ⟨S256x64x64, .f32⟩
  | 50 => ⟨S8192x1x64, .f32⟩
  | 51 => ⟨S8192x64, .f32⟩
  | 52 => ⟨S_, .i32⟩
  | 53 => ⟨S8192, .i32⟩
  | 54 => ⟨S8192, .i1⟩
  | 55 => ⟨S_, .i32⟩
  | 56 => ⟨S8192, .i32⟩
  | 57 => ⟨S8192, .i32⟩
  | 58 => ⟨S8192, .i32⟩
  | 59 => ⟨S8192x1, .i32⟩
  | 60 => ⟨S8192x64x64, .f32⟩
  | 61 => ⟨S8192x64, .f32⟩
  | 62 => ⟨S8192x1x64, .f32⟩
  | 63 => ⟨S8192x64, .f32⟩
  | 64 => ⟨S8192x64x1, .f32⟩
  | 65 => ⟨S8192x1x64, .f32⟩
  | 66 => ⟨S8192x64, .f32⟩
  | 67 => ⟨S8192x1x64, .f32⟩
  | 68 => ⟨S8192x64x64, .f32⟩
  | 69 => ⟨S8192x64x64, .f32⟩
  | 70 => ⟨S8192x64x64, .f32⟩
  | 71 => ⟨S_, .f32⟩
  | 72 => ⟨S256x64x64, .f32⟩
  | 73 => ⟨S8192x1, .i32⟩
  | 74 => ⟨S256x64x64, .f32⟩
  | 75 => ⟨S8192x1x64, .f32⟩
  | 76 => ⟨S8192x64, .f32⟩
  | 77 => ⟨S_, .i32⟩
  | 78 => ⟨S8192, .i32⟩
  | 79 => ⟨S8192, .i1⟩
  | 80 => ⟨S_, .i32⟩
  | 81 => ⟨S8192, .i32⟩
  | 82 => ⟨S8192, .i32⟩
  | 83 => ⟨S8192, .i32⟩
  | 84 => ⟨S8192x1, .i32⟩
  | 85 => ⟨S8192x64x64, .f32⟩
  | 86 => ⟨S8192x64, .f32⟩
  | 87 => ⟨S8192x1x64, .f32⟩
  | 88 => ⟨S8192x64, .f32⟩
  | 89 => ⟨S8192x64x1, .f32⟩
  | 90 => ⟨S8192x1x64, .f32⟩
  | 91 => ⟨S8192x64, .f32⟩
  | 92 => ⟨S8192x1x64, .f32⟩
  | 93 => ⟨S8192x64x64, .f32⟩
  | 94 => ⟨S8192x64x64, .f32⟩
  | 95 => ⟨S8192x64x64, .f32⟩
  | 96 => ⟨S_, .f32⟩
  | 97 => ⟨S256x64x64, .f32⟩
  | 98 => ⟨S8192x1, .i32⟩
  | 99 => ⟨S256x64x64, .f32⟩
  | 100 => ⟨S8192x1x64, .f32⟩
  | 101 => ⟨S8192x64, .f32⟩
  | 102 => ⟨S_, .i32⟩
  | 103 => ⟨S8192, .i32⟩
  | 104 => ⟨S8192, .i1⟩
  | 105 => ⟨S_, .i32⟩
  | 106 => ⟨S8192, .i32⟩
  | 107 => ⟨S8192, .i32⟩
  | 108 => ⟨S8192, .i32⟩
  | 109 => ⟨S8192x1, .i32⟩
  | 110 => ⟨S8192x64x64, .f32⟩
  | 111 => ⟨S8192x64, .f32⟩
  | 112 => ⟨S8192x1x64, .f32⟩
  | 113 => ⟨S8192x64, .f32⟩
  | 114 => ⟨S8192x64x1, .f32⟩
  | 115 => ⟨S8192x1x64, .f32⟩
  | 116 => ⟨S8192x64, .f32⟩
  | 117 => ⟨S8192x1x64, .f32⟩
  | 118 => ⟨S8192x64x64, .f32⟩
  | 119 => ⟨S8192x64x64, .f32⟩
  | 120 => ⟨S8192x64x64, .f32⟩
  | 121 => ⟨S_, .f32⟩
  | 122 => ⟨S256x64x64, .f32⟩
  | 123 => ⟨S8192x1, .i32⟩
  | 124 => ⟨S256x64x64, .f32⟩
  | 125 => ⟨S8192x1x64, .f32⟩
  | 126 => ⟨S8192x64, .f32⟩
  | 127 => ⟨S_, .i32⟩
  | _ => ⟨S8192x512, .f32⟩

abbrev hbmTy0_1 (i : Nat) : BufTy := match i % 128 with
  | 0 => ⟨S8192, .i32⟩
  | 1 => ⟨S8192, .i1⟩
  | 2 => ⟨S_, .i32⟩
  | 3 => ⟨S8192, .i32⟩
  | 4 => ⟨S8192, .i32⟩
  | 5 => ⟨S8192, .i32⟩
  | 6 => ⟨S8192x1, .i32⟩
  | 7 => ⟨S8192x64x64, .f32⟩
  | 8 => ⟨S8192x64, .f32⟩
  | 9 => ⟨S8192x1x64, .f32⟩
  | 10 => ⟨S8192x64, .f32⟩
  | 11 => ⟨S8192x64x1, .f32⟩
  | 12 => ⟨S8192x1x64, .f32⟩
  | 13 => ⟨S8192x64, .f32⟩
  | 14 => ⟨S8192x1x64, .f32⟩
  | 15 => ⟨S8192x64x64, .f32⟩
  | 16 => ⟨S8192x64x64, .f32⟩
  | 17 => ⟨S8192x64x64, .f32⟩
  | 18 => ⟨S_, .f32⟩
  | 19 => ⟨S256x64x64, .f32⟩
  | 20 => ⟨S8192x1, .i32⟩
  | 21 => ⟨S256x64x64, .f32⟩
  | 22 => ⟨S8192x1x64, .f32⟩
  | 23 => ⟨S8192x64, .f32⟩
  | 24 => ⟨S_, .i32⟩
  | 25 => ⟨S8192, .i32⟩
  | 26 => ⟨S8192, .i1⟩
  | 27 => ⟨S_, .i32⟩
  | 28 => ⟨S8192, .i32⟩
  | 29 => ⟨S8192, .i32⟩
  | 30 => ⟨S8192, .i32⟩
  | 31 => ⟨S8192x1, .i32⟩
  | 32 => ⟨S8192x64x64, .f32⟩
  | 33 => ⟨S8192x64, .f32⟩
  | 34 => ⟨S8192x1x64, .f32⟩
  | 35 => ⟨S8192x64, .f32⟩
  | 36 => ⟨S8192x64x1, .f32⟩
  | 37 => ⟨S8192x1x64, .f32⟩
  | 38 => ⟨S8192x64, .f32⟩
  | 39 => ⟨S8192x1x64, .f32⟩
  | 40 => ⟨S8192x64x64, .f32⟩
  | 41 => ⟨S8192x64x64, .f32⟩
  | 42 => ⟨S8192x64x64, .f32⟩
  | 43 => ⟨S_, .f32⟩
  | 44 => ⟨S256x64x64, .f32⟩
  | 45 => ⟨S8192x1, .i32⟩
  | 46 => ⟨S256x64x64, .f32⟩
  | 47 => ⟨S8192x1x64, .f32⟩
  | 48 => ⟨S8192x64, .f32⟩
  | 49 => ⟨S_, .i32⟩
  | 50 => ⟨S8192, .i32⟩
  | 51 => ⟨S8192, .i1⟩
  | 52 => ⟨S_, .i32⟩
  | 53 => ⟨S8192, .i32⟩
  | 54 => ⟨S8192, .i32⟩
  | 55 => ⟨S8192, .i32⟩
  | 56 => ⟨S8192x1, .i32⟩
  | 57 => ⟨S8192x64x64, .f32⟩
  | 58 => ⟨S8192x64, .f32⟩
  | 59 => ⟨S8192x1x64, .f32⟩
  | 60 => ⟨S8192x64, .f32⟩
  | 61 => ⟨S8192x64x1, .f32⟩
  | 62 => ⟨S8192x1x64, .f32⟩
  | 63 => ⟨S8192x64, .f32⟩
  | 64 => ⟨S8192x1x64, .f32⟩
  | 65 => ⟨S8192x64x64, .f32⟩
  | 66 => ⟨S8192x64x64, .f32⟩
  | 67 => ⟨S8192x64x64, .f32⟩
  | 68 => ⟨S_, .f32⟩
  | 69 => ⟨S256x64x64, .f32⟩
  | 70 => ⟨S8192x1, .i32⟩
  | 71 => ⟨S256x64x64, .f32⟩
  | 72 => ⟨S8192x1x64, .f32⟩
  | 73 => ⟨S8192x64, .f32⟩
  | 74 => ⟨S_, .i32⟩
  | 75 => ⟨S8192, .i32⟩
  | 76 => ⟨S8192, .i1⟩
  | 77 => ⟨S_, .i32⟩
  | 78 => ⟨S8192, .i32⟩
  | 79 => ⟨S8192, .i32⟩
  | 80 => ⟨S8192, .i32⟩
  | 81 => ⟨S8192x1, .i32⟩
  | 82 => ⟨S8192x64x64, .f32⟩
  | 83 => ⟨S8192x64, .f32⟩
  | 84 => ⟨S8192x1x64, .f32⟩
  | 85 => ⟨S8192x64, .f32⟩
  | 86 => ⟨S8192x64x1, .f32⟩
  | 87 => ⟨S8192x1x64, .f32⟩
  | 88 => ⟨S8192x64, .f32⟩
  | 89 => ⟨S8192x1x64, .f32⟩
  | 90 => ⟨S8192x64x64, .f32⟩
  | 91 => ⟨S8192x64x64, .f32⟩
  | 92 => ⟨S8192x64x64, .f32⟩
  | 93 => ⟨S_, .f32⟩
  | 94 => ⟨S256x64x64, .f32⟩
  | 95 => ⟨S8192x1, .i32⟩
  | 96 => ⟨S256x64x64, .f32⟩
  | 97 => ⟨S8192x1x64, .f32⟩
  | 98 => ⟨S8192x64, .f32⟩
  | 99 => ⟨S_, .i32⟩
  | 100 => ⟨S8192, .i32⟩
  | 101 => ⟨S8192, .i1⟩
  | 102 => ⟨S_, .i32⟩
  | 103 => ⟨S8192, .i32⟩
  | 104 => ⟨S8192, .i32⟩
  | 105 => ⟨S8192, .i32⟩
  | 106 => ⟨S8192x1, .i32⟩
  | 107 => ⟨S8192x64x64, .f32⟩
  | 108 => ⟨S8192x64, .f32⟩
  | 109 => ⟨S8192x1x64, .f32⟩
  | 110 => ⟨S8192x1x64, .f32⟩
  | 111 => ⟨S8192x1x64, .f32⟩
  | 112 => ⟨S8192x1x64, .f32⟩
  | 113 => ⟨S8192x1x64, .f32⟩
  | 114 => ⟨S8192x1x64, .f32⟩
  | 115 => ⟨S8192x1x64, .f32⟩
  | 116 => ⟨S8192x1x64, .f32⟩
  | 117 => ⟨S8192x8x64, .f32⟩
  | 118 => ⟨S_, .f32⟩
  | 119 => ⟨S8192x8x1, .f32⟩
  | 120 => ⟨S8192x8x1, .f32⟩
  | 121 => ⟨S8192x8x64, .f32⟩
  | 122 => ⟨S8192x8x64, .f32⟩
  | 123 => ⟨S8192x512, .f32⟩
  | 124 => ⟨S8192x512, .f32⟩
  | 125 => ⟨S1x512, .f32⟩
  | 126 => ⟨S8192x512, .f32⟩
  | 127 => ⟨S8192x512, .f32⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_call0_cst : Ref sig .tc := ⟨.hbm, 10, rfl⟩
abbrev main_call0_v0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_call1_cst : Ref sig .tc := ⟨.hbm, 15, rfl⟩
abbrev main_call1_v0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_0 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_1 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_2 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_c_3 : Ref sig .tc := ⟨.hbm, 52, rfl⟩
abbrev main_v36 : Ref sig .tc := ⟨.hbm, 53, rfl⟩
abbrev main_v37 : Ref sig .tc := ⟨.hbm, 54, rfl⟩
abbrev main_c_4 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_5 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_c_6 : Ref sig .tc := ⟨.hbm, 77, rfl⟩
abbrev main_v58 : Ref sig .tc := ⟨.hbm, 78, rfl⟩
abbrev main_v59 : Ref sig .tc := ⟨.hbm, 79, rfl⟩
abbrev main_c_7 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_cst_8 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_c_9 : Ref sig .tc := ⟨.hbm, 102, rfl⟩
abbrev main_v80 : Ref sig .tc := ⟨.hbm, 103, rfl⟩
abbrev main_v81 : Ref sig .tc := ⟨.hbm, 104, rfl⟩
abbrev main_c_10 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_cst_11 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_c_12 : Ref sig .tc := ⟨.hbm, 127, rfl⟩
abbrev main_v102 : Ref sig .tc := ⟨.hbm, 128, rfl⟩
abbrev main_v103 : Ref sig .tc := ⟨.hbm, 129, rfl⟩
abbrev main_c_13 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_cst_14 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_c_15 : Ref sig .tc := ⟨.hbm, 152, rfl⟩
abbrev main_v124 : Ref sig .tc := ⟨.hbm, 153, rfl⟩
abbrev main_v125 : Ref sig .tc := ⟨.hbm, 154, rfl⟩
abbrev main_c_16 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_v137 : Ref sig .tc := ⟨.hbm, 167, rfl⟩
abbrev main_v138 : Ref sig .tc := ⟨.hbm, 168, rfl⟩
abbrev main_v139 : Ref sig .tc := ⟨.hbm, 169, rfl⟩
abbrev main_v140 : Ref sig .tc := ⟨.hbm, 170, rfl⟩
abbrev main_cst_17 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_v145 : Ref sig .tc := ⟨.hbm, 176, rfl⟩
abbrev main_c_18 : Ref sig .tc := ⟨.hbm, 177, rfl⟩
abbrev main_v146 : Ref sig .tc := ⟨.hbm, 178, rfl⟩
abbrev main_v147 : Ref sig .tc := ⟨.hbm, 179, rfl⟩
abbrev main_c_19 : Ref sig .tc := ⟨.hbm, 180, rfl⟩
abbrev main_v148 : Ref sig .tc := ⟨.hbm, 181, rfl⟩
abbrev main_v149 : Ref sig .tc := ⟨.hbm, 182, rfl⟩
abbrev main_v150 : Ref sig .tc := ⟨.hbm, 183, rfl⟩
abbrev main_v151 : Ref sig .tc := ⟨.hbm, 184, rfl⟩
abbrev main_v152 : Ref sig .tc := ⟨.hbm, 185, rfl⟩
abbrev main_v153 : Ref sig .tc := ⟨.hbm, 186, rfl⟩
abbrev main_v154 : Ref sig .tc := ⟨.hbm, 187, rfl⟩
abbrev main_v155 : Ref sig .tc := ⟨.hbm, 188, rfl⟩
abbrev main_v156 : Ref sig .tc := ⟨.hbm, 189, rfl⟩
abbrev main_v157 : Ref sig .tc := ⟨.hbm, 190, rfl⟩
abbrev main_v158 : Ref sig .tc := ⟨.hbm, 191, rfl⟩
abbrev main_v159 : Ref sig .tc := ⟨.hbm, 192, rfl⟩
abbrev main_v160 : Ref sig .tc := ⟨.hbm, 193, rfl⟩
abbrev main_v161 : Ref sig .tc := ⟨.hbm, 194, rfl⟩
abbrev main_v162 : Ref sig .tc := ⟨.hbm, 195, rfl⟩
abbrev main_cst_20 : Ref sig .tc := ⟨.hbm, 196, rfl⟩
abbrev main_v163 : Ref sig .tc := ⟨.hbm, 197, rfl⟩
abbrev main_v164 : Ref sig .tc := ⟨.hbm, 198, rfl⟩
abbrev main_v165 : Ref sig .tc := ⟨.hbm, 199, rfl⟩
abbrev main_v166 : Ref sig .tc := ⟨.hbm, 200, rfl⟩
abbrev main_v167 : Ref sig .tc := ⟨.hbm, 201, rfl⟩
abbrev main_c_21 : Ref sig .tc := ⟨.hbm, 202, rfl⟩
abbrev main_v168 : Ref sig .tc := ⟨.hbm, 203, rfl⟩
abbrev main_v169 : Ref sig .tc := ⟨.hbm, 204, rfl⟩
abbrev main_c_22 : Ref sig .tc := ⟨.hbm, 205, rfl⟩
abbrev main_v170 : Ref sig .tc := ⟨.hbm, 206, rfl⟩
abbrev main_v171 : Ref sig .tc := ⟨.hbm, 207, rfl⟩
abbrev main_v172 : Ref sig .tc := ⟨.hbm, 208, rfl⟩
abbrev main_v173 : Ref sig .tc := ⟨.hbm, 209, rfl⟩
abbrev main_v174 : Ref sig .tc := ⟨.hbm, 210, rfl⟩
abbrev main_v175 : Ref sig .tc := ⟨.hbm, 211, rfl⟩
abbrev main_v176 : Ref sig .tc := ⟨.hbm, 212, rfl⟩
abbrev main_v177 : Ref sig .tc := ⟨.hbm, 213, rfl⟩
abbrev main_v178 : Ref sig .tc := ⟨.hbm, 214, rfl⟩
abbrev main_v179 : Ref sig .tc := ⟨.hbm, 215, rfl⟩
abbrev main_v180 : Ref sig .tc := ⟨.hbm, 216, rfl⟩
abbrev main_v181 : Ref sig .tc := ⟨.hbm, 217, rfl⟩
abbrev main_v182 : Ref sig .tc := ⟨.hbm, 218, rfl⟩
abbrev main_v183 : Ref sig .tc := ⟨.hbm, 219, rfl⟩
abbrev main_v184 : Ref sig .tc := ⟨.hbm, 220, rfl⟩
abbrev main_cst_23 : Ref sig .tc := ⟨.hbm, 221, rfl⟩
abbrev main_v185 : Ref sig .tc := ⟨.hbm, 222, rfl⟩
abbrev main_v186 : Ref sig .tc := ⟨.hbm, 223, rfl⟩
abbrev main_v187 : Ref sig .tc := ⟨.hbm, 224, rfl⟩
abbrev main_v188 : Ref sig .tc := ⟨.hbm, 225, rfl⟩
abbrev main_v189 : Ref sig .tc := ⟨.hbm, 226, rfl⟩
abbrev main_c_24 : Ref sig .tc := ⟨.hbm, 227, rfl⟩
abbrev main_v190 : Ref sig .tc := ⟨.hbm, 228, rfl⟩
abbrev main_v191 : Ref sig .tc := ⟨.hbm, 229, rfl⟩
abbrev main_c_25 : Ref sig .tc := ⟨.hbm, 230, rfl⟩
abbrev main_v192 : Ref sig .tc := ⟨.hbm, 231, rfl⟩
abbrev main_v193 : Ref sig .tc := ⟨.hbm, 232, rfl⟩
abbrev main_v194 : Ref sig .tc := ⟨.hbm, 233, rfl⟩
abbrev main_v195 : Ref sig .tc := ⟨.hbm, 234, rfl⟩
abbrev main_v196 : Ref sig .tc := ⟨.hbm, 235, rfl⟩
abbrev main_v197 : Ref sig .tc := ⟨.hbm, 236, rfl⟩
abbrev main_v198 : Ref sig .tc := ⟨.hbm, 237, rfl⟩
abbrev main_v199 : Ref sig .tc := ⟨.hbm, 238, rfl⟩
abbrev main_v200 : Ref sig .tc := ⟨.hbm, 239, rfl⟩
abbrev main_v201 : Ref sig .tc := ⟨.hbm, 240, rfl⟩
abbrev main_v202 : Ref sig .tc := ⟨.hbm, 241, rfl⟩
abbrev main_v203 : Ref sig .tc := ⟨.hbm, 242, rfl⟩
abbrev main_v204 : Ref sig .tc := ⟨.hbm, 243, rfl⟩
abbrev main_v205 : Ref sig .tc := ⟨.hbm, 244, rfl⟩
abbrev main_v206 : Ref sig .tc := ⟨.hbm, 245, rfl⟩
abbrev main_cst_26 : Ref sig .tc := ⟨.hbm, 246, rfl⟩
abbrev main_v207 : Ref sig .tc := ⟨.hbm, 247, rfl⟩
abbrev main_v208 : Ref sig .tc := ⟨.hbm, 248, rfl⟩
abbrev main_v209 : Ref sig .tc := ⟨.hbm, 249, rfl⟩
abbrev main_v210 : Ref sig .tc := ⟨.hbm, 250, rfl⟩
abbrev main_v211 : Ref sig .tc := ⟨.hbm, 251, rfl⟩
abbrev main_v212 : Ref sig .tc := ⟨.hbm, 252, rfl⟩
abbrev main_v213 : Ref sig .tc := ⟨.hbm, 253, rfl⟩
abbrev main_v214 : Ref sig .tc := ⟨.hbm, 254, rfl⟩
abbrev main_v215 : Ref sig .tc := ⟨.hbm, 255, rfl⟩

abbrev nD : Nat := 1
abbrev τ : Topo := Topo.v7x

variable {F : FTy → Type} [FloatOps F]
-- ==== Proof.KernelIdeal.Steps.lean ====
/- What one grid point of each of the kernel's two calls computes, as functions of the blocks it is given and of the
   scratch the point before it left. The eight heads are treated alike: one function of the head's number. -/
module

public import proofs.«01_k».proof.Proof.Gen.KernelIdeal.Skeleton
public import proofs.«01_k».proof.Proof.Gen.KernelIdeal.Regions
public import proofs.«01_k».proof.Proof.Gen.KernelIdeal.Points
public import Idealize.ShloMosaic.Lib.Pipeline.FrameBody
public import Idealize.ShloMosaic.Lib.Pipeline.ValueKit
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.KernelIdeal.Steps

open Cert.KernelIdeal.Gen Idealize.ShloMosaic

variable {F : FTy → Type} [FloatOps F]

/-! ## The rectangles of one head -/

/-- Head `h`'s 64 rows of a scratch buffer. -/
abbrev rows (h : Fin 8) : Rect S512x128 :=
  Rect.unit ![64 * h.val, 0] S64x128.size (by revert h; decide)
/-- Head `h`'s 128 columns of the values, each with its one and its zeros. -/
abbrev valCols (h : Fin 8) : Rect S512x1024 :=
  Rect.unit ![0, 128 * h.val] S512x128.size (by revert h; decide)
/-- Head `h`'s 64 key columns of the queries and keys. -/
abbrev keyCols (h : Fin 8) : Rect S512x1024 :=
  Rect.unit ![0, 512 + 64 * h.val] S512x64.size (by revert h; decide)
/-- Head `h`'s 64 rows of the carried block. -/
abbrev kvRows (h : Fin 8) : Rect S1x512x128 :=
  Rect.unit ![0, 64 * h.val, 0] S1x64x128.size (by revert h; decide)
/-- The query columns of the queries and keys. -/
abbrev queries : Rect S512x1024 := Rect.unit ![0, 0] S512x512.size inb_S512x1024_S512x512_0_0
/-- The key columns of the queries and keys. -/
abbrev keys : Rect S512x1024 := Rect.unit ![0, 512] S512x512.size inb_S512x1024_S512x512_0_512
/-- The first entry of a row of window numbers. -/
abbrev first : Rect S1x1x512 := Rect.unit ![0, 0, 0] S1x1x1.size inb_S1x1x512_S1x1x1_0_0_0
/-- The last entry of a row of window numbers. -/
abbrev last : Rect S1x1x512 := Rect.unit ![0, 0, 511] S1x1x1.size inb_S1x1x512_S1x1x1_0_0_511

theorem slices_head (h : Fin 8) : S512x512.Slices ![0, 64 * h.val] S512x64 := by revert h; decide
theorem slices_value (h : Fin 8) : S512x1024.Slices ![0, 128 * h.val] S512x128 := by revert h; decide

/-- Head `h`'s 64 columns of a 512 by 512 array. -/
def head (h : Fin 8) (k : FVec F S512x512 .bf16) : FVec F S512x64 .bf16 :=
  extractStridedSlice S512x64 ![0, 64 * h.val] k (slices_head h)
/-- Head `h`'s 128 columns of the values. -/
def value (h : Fin 8) (v : FVec F S512x1024 .bf16) : FVec F S512x128 .bf16 :=
  extractStridedSlice S512x128 ![0, 128 * h.val] v (slices_value h)

/-! ## One head's accumulator -/

/-- One head's accumulator after a block: what it was if the flag `p` is set, else zero, plus keys times values. -/
def headKv (p : IVec S1x1 1) (k : FVec F S512x64 .bf16) (v : FVec F S512x128 .bf16) (s : Vec F S64x128 .f32) : FVec F S64x128 .f32 :=
  shapeCast S64x128
    (addf (select (broadcastTo S64x128 (shapeCast S1x1 p shapeCasts_S1x1_S1x1) broadcasts_S1x1_S64x128) s
        (broadcast S64x128 (Scalar.ofBits .f32 0x00000000#32)))
      (matmul dot_S512x64_S512x128_S64x128_0_0_1_1_n_n none k v (constant S64x128 .f32 0x00000000#32)))
    shapeCasts_S64x128_S64x128

/-- The scratch whose head `h` holds `f h`. -/
def stack (f : Fin 8 → FVec F S64x128 .f32) : Vec F S512x128 .f32 := fun y =>
  f ⟨(y 0).val / 64, Nat.div_lt_of_lt_mul (y 0).isLt⟩
    (ValueIdx.ix2 (⟨(y 0).val % 64, Nat.mod_lt _ (by decide)⟩ : Fin 64) (y 1))

theorem stack_rows (f : Fin 8 → FVec F S64x128 .f32) (h : Fin 8) (x : (rows h).shape.Idx) :
    f h x = stack f ((rows h).emb x) := by
  have hx : (x 0).val < 64 := (x 0).isLt
  have h0 : ((rows h).emb x 0).val = 64 * h.val + 1 * (x 0).val := rfl
  have h1 : ((rows h).emb x 1).val = 0 + 1 * (x 1).val := rfl
  unfold stack
  have e : (⟨((rows h).emb x 0).val / 64, Nat.div_lt_of_lt_mul ((rows h).emb x 0).isLt⟩ : Fin 8) = h :=
    Fin.ext (by show ((rows h).emb x 0).val / 64 = _; rw [h0]; omega)
  rw [e]
  congr 1
  funext a
  match a with
  | ⟨0, _⟩ => exact Fin.ext (by show _ = ((rows h).emb x 0).val % 64; rw [h0]; show (x 0).val = _; omega)
  | ⟨1, _⟩ => exact Fin.ext (by show _ = ((rows h).emb x 1).val; rw [h1]; show (x 1).val = _; omega)

/-! ## The first call -/

section Fwd

variable (x0 x1 : Vec F S1x1x512 .i32) (x2 : Vec F S1x512x1 .i32) (x3 : Vec F S512x512 .bf16) (x4 : Vec F S512x1536 .bf16)

/-- The block's queries and keys. -/
def fwdQk : FVec F S512x1024 .bf16 := k0_pay6 x3 x4
/-- The block's values, each head's followed by a one and zeros. -/
def fwdVa : FVec F S512x1024 .bf16 := k0_pay7 x3 x4
/-- The scratch after the block, from the scratch before it. -/
def fwdNext (s : Vec F S512x128 .f32) : Vec F S512x128 .f32 := stack fun h =>
  headKv (k0_pay10 (View.ld x0 first) (View.ld x1 first)) (head h (k0_pay11 (fwdQk x3 x4) (View.ld x1 first) x2))
    (value h (fwdVa x3 x4)) (View.ld s (rows h))

end Fwd

/-! ## The second call -/

section Bwd

variable (x0 x1 : Vec F S1x1x512 .i32) (x2 : Vec F S1x512x1 .i32) (x3 x4 : Vec F S512x1024 .bf16)
  (x5 : Vec F S1x512x128 .bf16) (x6 : Vec F S512x512 .f32) (x7 : Vec F S1x512 .f32) (s : Vec F S512x128 .f32)

/-- One head's outputs before the division: the rows of the block, the rows before it and the rows after it. -/
def headAcc (h : Fin 8) : FVec F S512x128 .f32 :=
  addf
    (addf
      (matmul dot_S512x512_S512x128_S512x128_1_0_0_1_n_n none
        (truncf .bf16
          (select (k1_pay6 x0 x2)
            (matmul dot_S512x64_S512x64_S512x512_1_1_0_0_n_n none (head h (k1_pay7 (View.ld x3 queries)))
              (shapeCast S512x64 (View.ld x3 (keyCols h)) shapeCasts_S512x64_S512x64) (constant S512x512 .f32 0x00000000#32))
            (broadcast S512x512 (Scalar.ofBits .f32 0x00000000#32))) bitsLt_bf16_f32)
        (shapeCast S512x128 (View.ld x4 (valCols h)) shapeCasts_S512x128_S512x128) (constant S512x128 .f32 0x00000000#32))
      (matmul dot_S512x64_S64x128_S512x128_1_0_0_1_n_n none (head h (k1_pay8 x0 x2 (View.ld x3 queries)))
        (shapeCast S64x128 (View.ld x5 (kvRows h)) shapeCasts_S1x64x128_S64x128) (constant S512x128 .f32 0x00000000#32)))
    (matmul dot_S512x64_S64x128_S512x128_1_0_0_1_n_n none (head h (k1_pay9 x0 x2 (View.ld x3 queries)))
      (View.ld s (rows h)) (constant S512x128 .f32 0x00000000#32))

/-- One head's outputs: divided by its own column 64 plus the small constant. -/
def headY (h : Fin 8) : FVec F S512x64 .f32 :=
  mulf (extractStridedSlice S512x64 ![0, 0] (headAcc x0 x2 x3 x4 x5 s h) slices_S512x128_o0_0_S512x64)
    (broadcastTo S512x64
      (divf (broadcast S512x1 (Scalar.ofBits .f32 0x3F800000#32))
        (addf (extractStridedSlice S512x1 ![0, 64] (headAcc x0 x2 x3 x4 x5 s h) slices_S512x128_o0_64_S512x1)
          (broadcast S512x1 (Scalar.ofBits .f32 0x358637BD#32))))
      broadcasts_S512x1_S512x64)

/-- The block of the result: the eight heads side by side, times the projection, plus the bias. -/
def bwdOut : FVec F S512x512 .f32 :=
  addf
    (matmul dot_S512x512_S512x512_S512x512_1_0_0_1_n_n none
      (concatenate S512x512 1 [⟨S512x64, headY x0 x2 x3 x4 x5 s 0⟩, ⟨S512x64, headY x0 x2 x3 x4 x5 s 1⟩,
        ⟨S512x64, headY x0 x2 x3 x4 x5 s 2⟩, ⟨S512x64, headY x0 x2 x3 x4 x5 s 3⟩, ⟨S512x64, headY x0 x2 x3 x4 x5 s 4⟩,
        ⟨S512x64, headY x0 x2 x3 x4 x5 s 5⟩, ⟨S512x64, headY x0 x2 x3 x4 x5 s 6⟩, ⟨S512x64, headY x0 x2 x3 x4 x5 s 7⟩]
        concatenates_S512x64_S512x64_S512x64_S512x64_S512x64_S512x64_S512x64_S512x64_S512x512_d1)
      x6 (constant S512x512 .f32 0x00000000#32))
    (broadcastTo S512x512 (shapeCast S1x512 (shapeCast S512 x7 shapeCasts_S1x512_S512) shapeCasts_S512_S1x512) broadcasts_S1x512_S512x512)

/-- The scratch after the block, from the scratch before it. -/
def bwdNext : Vec F S512x128 .f32 := stack fun h =>
  headKv (k1_pay29 (k1_pay5 x0) (View.ld x1 last)) (head h (k1_pay30 (k1_pay4 x2) (View.ld x1 last) (View.ld x3 keys)))
    (shapeCast S512x128 (View.ld x4 (valCols h)) shapeCasts_S512x128_S512x128) (View.ld s (rows h))

end Bwd

end Cert.KernelIdeal.Steps

end
-- ==== Proof.KernelIdeal.FwdRun.lean ====
/- The body of the kernel's first call run once: from the blocks it is given and the scratch it finds, to the blocks and
   the scratch it leaves, at the grid's first point and at any later one. -/
module

public import proofs.«01_k».proof.Proof.KernelIdeal.Steps
public import Idealize.ShloMosaic.Lib.VecWindow

@[expose] public section

set_option maxRecDepth 16384

noncomputable section

namespace Cert.KernelIdeal.Fwd

open Cert.KernelIdeal.Gen Cert.KernelIdeal.Steps
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The condition under which the body clears its scratch. -/
abbrev cond (i : grid0.Coords) : Prop :=
  (Scalar.cmpi .ne (Scalar.extui (Scalar.cmpi .eq (BitVec.ofNat 32 (i 0).val) 0#32)) 0#32) = 1#1
/-- It holds at the grid's first point only. -/
theorem cond_iff (t : Fin cfg0.N) : cond (grid0.coords t) ↔ t.val = 0 := by
  have ht : t.val < 16 := Nat.lt_of_lt_of_eq t.isLt N_0
  have e0 : (grid0.coords t 0).val = t.val / 1 % 16 := Pipeline.Grid.coords_val t 0 (by decide) rfl
  have h : cond (grid0.coords t) ↔ t.val % 16 = 0 := by
    simp only [cond, e0]
    word_cmp
  rw [h]; omega

variable (c : Dev nD) (i : grid0.Coords)
  (arg1 : Memref sig .tc .vmem S1x1x512 .i32) (harg1 : arg1.IsWhole) (arg2 : Memref sig .tc .vmem S1x1x512 .i32) (harg2 : arg2.IsWhole)
  (arg3 : Memref sig .tc .vmem S1x512x1 .i32) (harg3 : arg3.IsWhole) (arg4 : Memref sig .tc .vmem S512x512 .bf16) (harg4 : arg4.IsWhole)
  (arg5 : Memref sig .tc .vmem S512x1536 .bf16) (harg5 : arg5.IsWhole) (arg6 : Memref sig .tc .vmem S512x1024 .bf16) (harg6 : arg6.IsWhole)
  (arg7 : Memref sig .tc .vmem S512x1024 .bf16) (harg7 : arg7.IsWhole) (arg8 : Memref sig .tc .vmem S1x512x128 .bf16) (harg8 : arg8.IsWhole)
  (arg9 : Memref sig .tc .vmem S512x128 .f32) (harg9 : arg9.IsWhole)
  (x0 x1 : Vec F S1x1x512 .i32) (x2 : Vec F S1x512x1 .i32) (x3 : Vec F S512x512 .bf16) (x4 : Vec F S512x1536 .bf16)

/-- A load of one head's rows of the scratch. -/
theorem load_rows (s : Vec F S512x128 .f32) (h : Fin 8) :
    View.readAt (Elt F) arg9.view (rows h).toLoadRect (harg9.unread s) = View.ld s (rows h) := by
  rw [View.readAt_eq_ld, Memref.IsWhole.read_unread]

/-- One head's update over the loads the body makes is the rows of that head in what the step leaves. -/
theorem load_head (s : Vec F S512x128 .f32) (h : Fin 8) (x : (rows h).shape.Idx) :
    headKv (k0_pay10 (View.readAt (Elt F) arg1.view first.toLoadRect (harg1.unread x0)) (View.readAt (Elt F) arg2.view first.toLoadRect (harg2.unread x1)))
      (head h (k0_pay11
        (k0_pay6 (View.readAt (Elt F) arg4.view (Rect.unit ![0, 0] S512x512.size inb_S512x512_S512x512_0_0).toLoadRect (harg4.unread x3))
          (View.readAt (Elt F) arg5.view (Rect.unit ![0, 0] S512x1536.size inb_S512x1536_S512x1536_0_0).toLoadRect (harg5.unread x4)))
        (View.readAt (Elt F) arg2.view first.toLoadRect (harg2.unread x1))
        (View.readAt (Elt F) arg3.view (Rect.unit ![0, 0, 0] S1x512x1.size inb_S1x512x1_S1x512x1_0_0_0).toLoadRect (harg3.unread x2))))
      (value h (k0_pay7 (View.readAt (Elt F) arg4.view (Rect.unit ![0, 0] S512x512.size inb_S512x512_S512x512_0_0).toLoadRect (harg4.unread x3))
          (View.readAt (Elt F) arg5.view (Rect.unit ![0, 0] S512x1536.size inb_S512x1536_S512x1536_0_0).toLoadRect (harg5.unread x4))))
      (View.readAt (Elt F) arg9.view (rows h).toLoadRect (harg9.unread s)) x
    = fwdNext x0 x1 x2 x3 x4 s ((rows h).emb x) := by
  rw [fwdNext, ← stack_rows, load_rows]
  simp only [View.readAt_eq_ld, Memref.IsWhole.read_unread]
  rw [View.ld_unit_lit' inb_S512x512_S512x512_0_0 x3 (by decide), View.ld_unit_lit' inb_S512x1536_S512x1536_0_0 x4 (by decide),
    View.ld_unit_lit' inb_S1x512x1_S1x512x1_0_0_0 x2 (by decide)]
  rfl

/-- So is a whole block computed from two whole loads. -/
theorem load_block {α : Type} (f : Vec F S512x512 .bf16 → Vec F S512x1536 .bf16 → α) :
    f (View.readAt (Elt F) arg4.view (Rect.unit ![0, 0] S512x512.size inb_S512x512_S512x512_0_0).toLoadRect (harg4.unread x3))
      (View.readAt (Elt F) arg5.view (Rect.unit ![0, 0] S512x1536.size inb_S512x1536_S512x1536_0_0).toLoadRect (harg5.unread x4))
    = f x3 x4 := by
  simp only [View.readAt_eq_ld, Memref.IsWhole.read_unread]
  rw [View.ld_unit_lit' inb_S512x512_S512x512_0_0 x3 (by decide), View.ld_unit_lit' inb_S512x1536_S512x1536_0_0 x4 (by decide)]

set_option maxHeartbeats 1000000 in
/-- At the first point: whatever the scratch holds, it is cleared first. -/
theorem run_first (hc0 : cond i) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (fwdQk x3 x4) ∗ owns (c : Thread nD τ) arg7 fullShare (fwdVa x3 x4)
            ∗ owns (c : Thread nD τ) arg8 fullShare (k0_pay8 (k0_pay4 (F := F))) ∗ owns (c : Thread nD τ) arg9 fullShare (fwdNext x0 x1 x2 x3 x4 (k0_pay4 (F := F)))) -∗ K ⟨⟩))
      ⊢ wp frame (wpE (defs₀ (F := F)) Variants.none c none) E
          (cc0__qkv_fwd_kernel i arg1 harg1 arg2 harg2 arg3 harg3 arg4 harg4 arg5 harg5 arg6 harg6 arg7 harg7 arg8 harg8 arg9 harg9) K := by
  simp only [cc0__qkv_fwd_kernel_eq_skeleton]; unfold cc0__qkv_fwd_kernel_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, Hk⟩
  obtain rfl := harg1.eq_unread hf0; obtain rfl := harg2.eq_unread hf1; obtain rfl := harg3.eq_unread hf2
  obtain rfl := harg4.eq_unread hf3; obtain rfl := harg5.eq_unread hf4
  set_option sl_exec.stopBefore "k0_part2" in sl_exec (disch := first | sl_exact hc0)
  rw [show arg9.view.writes (Elt F) fs0 run_first.sl.HS0_1 = harg9.unread (k0_pay4 (F := F)) from
    harg9.eq_unread (View.read_writes_full arg9.view fs0 inb_S512x128_S512x128_0_0 (k0_pay4 (F := F)) [])]
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; swap; · iexact H5
    ipureintro
    have e := load_block arg4 harg4 arg5 harg5 x3 x4 (k0_pay6 (F := F))
    exact (View.read_writes_full _ _ _ _ _).trans e
  isplitl [H6]
  · iexists _; isplitr; swap; · iexact H6
    ipureintro
    have e := load_block arg4 harg4 arg5 harg5 x3 x4 (k0_pay7 (F := F))
    exact (View.read_writes_full _ _ _ _ _).trans e
  isplitl [H7]
  · iexists _; isplitr; swap; · iexact H7
    ipureintro
    refine (View.read_writes_full _ _ _ _ _).trans (congrArg (k0_pay8 (F := F)) ?_)
    exact View.readCov_full _ _ _ _ _
  · iexists _; isplitr; swap; · iexact HS0
    ipureintro
    funext y
    refine View.read_writes_apply_of_pieces _ _ _ _ ?_ y (View.cover_of_tiledL (s := S512x128) _ ![64, 128] (by sl_kernel_rfl) y)
    have piece := load_head arg1 harg1 arg2 harg2 arg3 harg3 arg4 harg4 arg5 harg5 arg9 harg9 x0 x1 x2 x3 x4 (k0_pay4 (F := F))
    exact List.forall_mem_cons.mpr ⟨piece 7, List.forall_mem_cons.mpr ⟨piece 6, List.forall_mem_cons.mpr ⟨piece 5, List.forall_mem_cons.mpr ⟨piece 4, List.forall_mem_cons.mpr ⟨piece 3, List.forall_mem_cons.mpr ⟨piece 2, List.forall_mem_cons.mpr ⟨piece 1, List.forall_mem_cons.mpr ⟨piece 0,
      fun _ h => absurd h List.not_mem_nil⟩⟩⟩⟩⟩⟩⟩⟩

set_option maxHeartbeats 1000000 in
/-- At a later point: the scratch is the one the point before it left. -/
theorem run_next (xs : Vec F S512x128 .f32) (hc0 : ¬cond i) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (∃ d, owns (c : Thread nD τ) arg8 fullShare d) ∗ owns (c : Thread nD τ) arg9 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (fwdQk x3 x4) ∗ owns (c : Thread nD τ) arg7 fullShare (fwdVa x3 x4)
            ∗ owns (c : Thread nD τ) arg8 fullShare (k0_pay8 xs) ∗ owns (c : Thread nD τ) arg9 fullShare (fwdNext x0 x1 x2 x3 x4 xs)) -∗ K ⟨⟩))
      ⊢ wp frame (wpE (defs₀ (F := F)) Variants.none c none) E
          (cc0__qkv_fwd_kernel i arg1 harg1 arg2 harg2 arg3 harg3 arg4 harg4 arg5 harg5 arg6 harg6 arg7 harg7 arg8 harg8 arg9 harg9) K := by
  simp only [cc0__qkv_fwd_kernel_eq_skeleton]; unfold cc0__qkv_fwd_kernel_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%fs0, %hfs0, HS0⟩, Hk⟩
  obtain rfl := harg1.eq_unread hf0; obtain rfl := harg2.eq_unread hf1; obtain rfl := harg3.eq_unread hf2
  obtain rfl := harg4.eq_unread hf3; obtain rfl := harg5.eq_unread hf4; obtain rfl := harg9.eq_unread hfs0
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; swap; · iexact H5
    ipureintro
    have e := load_block arg4 harg4 arg5 harg5 x3 x4 (k0_pay6 (F := F))
    exact (View.read_writes_full _ _ _ _ _).trans e
  isplitl [H6]
  · iexists _; isplitr; swap; · iexact H6
    ipureintro
    have e := load_block arg4 harg4 arg5 harg5 x3 x4 (k0_pay7 (F := F))
    exact (View.read_writes_full _ _ _ _ _).trans e
  isplitl [H7]
  · iexists _; isplitr; swap; · iexact H7
    ipureintro
    refine (View.read_writes_full _ _ _ _ _).trans (congrArg (k0_pay8 (F := F)) ?_)
    simp only [View.readAt_eq_ld, Memref.IsWhole.read_unread]
    exact View.ld_unit_lit' inb_S512x128_S512x128_0_0 xs (by decide)
  · iexists _; isplitr; swap; · iexact HS0
    ipureintro
    funext y
    refine View.read_writes_apply_of_pieces _ _ _ _ ?_ y (View.cover_of_tiledL (s := S512x128) _ ![64, 128] (by sl_kernel_rfl) y)
    have piece := load_head arg1 harg1 arg2 harg2 arg3 harg3 arg4 harg4 arg5 harg5 arg9 harg9 x0 x1 x2 x3 x4 xs
    exact List.forall_mem_cons.mpr ⟨piece 7, List.forall_mem_cons.mpr ⟨piece 6, List.forall_mem_cons.mpr ⟨piece 5, List.forall_mem_cons.mpr ⟨piece 4, List.forall_mem_cons.mpr ⟨piece 3, List.forall_mem_cons.mpr ⟨piece 2, List.forall_mem_cons.mpr ⟨piece 1, List.forall_mem_cons.mpr ⟨piece 0,
      fun _ h => absurd h List.not_mem_nil⟩⟩⟩⟩⟩⟩⟩⟩

end Cert.KernelIdeal.Fwd

end
-- ==== Proof.KernelIdeal.FwdRegion.lean ====
/- The first call as a region of the program: what its windows hold at each grid point, the scratch carried from point to
   point, and the obligation its body meets there, for any contents of the arrays at entry. -/
module

public import proofs.«01_k».proof.Proof.KernelIdeal.FwdRun
public import proofs.«01_k».proof.Proof.Gen.KernelIdeal.Points
public import Idealize.ShloMosaic.Lib.Pipeline.RegionsLoop

@[expose] public section

set_option maxRecDepth 16384

noncomputable section

namespace Cert.KernelIdeal.Fwd

open Cert.KernelIdeal.Gen Cert.KernelIdeal.Steps
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks and the scratch -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The scratch before point `n`: zeros before the first, then what the point before left. -/
def scr (c : Dev nD) : ℕ → Vec F S512x128 .f32
  | 0 => k0_pay4 (F := F)
  | n + 1 => if h : n < cfg0.N then fwdNext (iblk V c 0 ⟨n, h⟩) (iblk V c 1 ⟨n, h⟩) (iblk V c 2 ⟨n, h⟩) (iblk V c 3 ⟨n, h⟩) (iblk V c 4 ⟨n, h⟩) (scr c n) else scr c n

theorem scr_succ (c : Dev nD) (t : Fin cfg0.N) :
    scr V c (t.val + 1) = fwdNext (iblk V c 0 t) (iblk V c 1 t) (iblk V c 2 t) (iblk V c 3 t) (iblk V c 4 t) (scr V c t.val) := by
  rw [scr, dif_pos t.isLt]

/-- The scratch as a memory reference. -/
abbrev scM : Memref sig .tc .vmem S512x128 .f32 := Memref.whole cc0_scratch0

/-- What the core holds beside the staging buffers and the scratch: every other scoped buffer, at anything. -/
def rest (c : Dev nD) : sProp 𝕄 :=
  bigSep ((((Finset.univ.filter fun b : Ref sig .tc => b.isScoped) \ Finset.univ.image (Pipeline.stageRef spec0))).erase cc0_scratch0)
    fun b => iprop(∃ f : Buf (Elt F) ((c.tc : Thread nD τ).loc b), ((c.tc : Thread nD τ).loc b) ↦{fullShare} f)

theorem scopedRest_eq (c : Dev nD) :
    (Pipeline.scopedRest spec0 c : sProp 𝕄) = iprop((∃ d, owns (c : Thread nD τ) scM fullShare d) ∗ rest c) := by
  have hm : cc0_scratch0 ∈ ((Finset.univ.filter fun b : Ref sig .tc => b.isScoped) \ Finset.univ.image (Pipeline.stageRef spec0)) := by decide
  unfold Pipeline.scopedRest rest
  rw [← Finset.insert_erase hm, bigSep_insert (Finset.notMem_erase _ _), Finset.erase_insert (Finset.notMem_erase _ _)]
  simp only [scM, owns_whole]
  rfl

/-- What is held before point `n` beside the windows: the scratch, at anything before the first point and at `scr` later,
    and the rest. -/
def inv (c : Dev nD) : ℕ → sProp 𝕄
  | 0 => iprop((∃ d, owns (c : Thread nD τ) scM fullShare d) ∗ rest c)
  | n + 1 => iprop(owns (c : Thread nD τ) scM fullShare (scr V c (n + 1)) ∗ rest c)

theorem inv_pos (c : Dev nD) (n : ℕ) (h : n ≠ 0) :
    inv V c n = iprop(owns (c : Thread nD τ) scM fullShare (scr V c n) ∗ rest c) := by
  cases n with
  | zero => exact absurd rfl h
  | succ n => rfl

/-! ## The proof data -/

/-- The region's data on core `c`: the arrays as found, what each window's buffer holds after the body at each point, what is
    held between points, each window's share of its array, nothing owed. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => fwdQk (iblk V c 3 t) (iblk V c 4 t)
    | ⟨6, _⟩ => fwdVa (iblk V c 3 t) (iblk V c 4 t)
    | ⟨7, _⟩ => k0_pay8 (scr V c t.val)
  Φ t := inv V c t.val
  q w := Pipeline.shareOf spec0 w
  owed _ := 0

theorem dat_A (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = iblk V c 4 t := by dsimp only [dat]
theorem after_5 (c : Dev nD) (t : Fin cfg0.N) : (dat V c).after 5 t = fwdQk (iblk V c 3 t) (iblk V c 4 t) := by dsimp only [dat]
theorem after_6 (c : Dev nD) (t : Fin cfg0.N) : (dat V c).after 6 t = fwdVa (iblk V c 3 t) (iblk V c 4 t) := by dsimp only [dat]
theorem after_7 (c : Dev nD) (t : Fin cfg0.N) : (dat V c).after 7 t = k0_pay8 (scr V c t.val) := by dsimp only [dat]

/-! Each input window holds its block at every point, whether fetched there or earlier. -/

theorem before_0 (c : Dev nD) (t : Fin cfg0.N) (d) : (dat V c).before 0 t d = iblk V c 0 t :=
  ((dat V c).before_in_eq_fetched 0 rfl (fun _ => rfl) (fun _ _ _ => rfl) (fun t => by rw [after_0]; unfold Dat.blockOf iblk; rw [dat_A]; try rfl) t d).trans
    (by unfold Dat.fetched Dat.blockOf iblk; rw [dat_A]; try rfl)
theorem before_1 (c : Dev nD) (t : Fin cfg0.N) (d) : (dat V c).before 1 t d = iblk V c 1 t :=
  ((dat V c).before_in_eq_fetched 1 rfl (fun _ => rfl) (fun _ _ _ => rfl) (fun t => by rw [after_1]; unfold Dat.blockOf iblk; rw [dat_A]; try rfl) t d).trans
    (by unfold Dat.fetched Dat.blockOf iblk; rw [dat_A]; try rfl)
theorem before_2 (c : Dev nD) (t : Fin cfg0.N) (d) : (dat V c).before 2 t d = iblk V c 2 t :=
  ((dat V c).before_in_eq_fetched 2 rfl (fun _ => rfl) (fun _ _ _ => rfl) (fun t => by rw [after_2]; unfold Dat.blockOf iblk; rw [dat_A]; try rfl) t d).trans
    (by unfold Dat.fetched Dat.blockOf iblk; rw [dat_A]; try rfl)
theorem before_3 (c : Dev nD) (t : Fin cfg0.N) (d) : (dat V c).before 3 t d = iblk V c 3 t :=
  ((dat V c).before_in_eq_fetched 3 rfl (fun _ => rfl) (fun _ _ _ => rfl) (fun t => by rw [after_3]; unfold Dat.blockOf iblk; rw [dat_A]; try rfl) t d).trans
    (by unfold Dat.fetched Dat.blockOf iblk; rw [dat_A]; try rfl)
theorem before_4 (c : Dev nD) (t : Fin cfg0.N) (d) : (dat V c).before 4 t d = iblk V c 4 t :=
  ((dat V c).before_in_eq_fetched 4 rfl (fun _ => rfl) (fun _ _ _ => rfl) (fun t => by rw [after_4]; unfold Dat.blockOf iblk; rw [dat_A]; try rfl) t d).trans
    (by unfold Dat.fetched Dat.blockOf iblk; rw [dat_A]; try rfl)

/-! ## The body's obligation -/

/-- What the body is called with at point `t`, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d))
    ∗ (∃ d, owns (c : Thread nD τ) (st0_7 t) fullShare ((dat V c).before 7 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t)
    ∗ owns (c : Thread nD τ) (st0_7 t) fullShare ((dat V c).after 7 t))

set_option maxHeartbeats 1000000 in
/-- The body at any point: its run from the blocks and the scratch, at the first point or at a later one. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4]
  rw [show (dat V c).owesAt () t.succ = (dat V c).owesAt () t.castSucc from rfl,
    after_0, after_1, after_2, after_3, after_4, after_5, after_6, after_7,
    show (dat V c).Φ t.castSucc = inv V c t.val from rfl,
    show (dat V c).Φ t.succ = iprop(owns (c : Thread nD τ) scM fullShare (scr V c (t.val + 1)) ∗ rest c) from rfl, scr_succ]
  by_cases hz : t.val = 0
  · rw [show inv V c t.val = inv V c 0 from congrArg _ hz, show scr V c t.val = k0_pay4 from (congrArg _ hz).trans rfl]
    unfold inv
    iintro ⟨⟨HS, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_first c (grid0.coords t) _ _ _ _ _ _ _ _ _ _ _ _ _ _ _ _ _ _ (iblk V c 0 t) (iblk V c 1 t) (iblk V c 2 t) (iblk V c 3 t) (iblk V c 4 t) ((cond_iff t).mpr hz) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS]; · iexact HS
    iintro ⟨H0, H1, H2, H3, H4, H5, H6, H7, HS⟩
    isplitl [HS Hr]
    · isplitl [HS]; · iexact HS
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [inv_pos V c _ hz]
    iintro ⟨⟨HS, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_next c (grid0.coords t) _ _ _ _ _ _ _ _ _ _ _ _ _ _ _ _ _ _ (iblk V c 0 t) (iblk V c 1 t) (iblk V c 2 t) (iblk V c 3 t) (iblk V c 4 t) (scr V c t.val) (fun h => hz ((cond_iff t).mp h)) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS]; · iexact HS
    iintro ⟨H0, H1, H2, H3, H4, H5, H6, H7, HS⟩
    isplitl [HS Hr]
    · isplitl [HS]; · iexact HS
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The body's row at point `t`'s buffers is the body there. -/
theorem defs₀_row (t : Fin cfg0.N) :
    defs₀ (F := F) .tc cfg0.body (cfg0.bodyArgs t (cfg0.slots t)) = bodyAt0 t := by
  unfold defs₀; rw [Defs.onTc_tc]

/-- The obligation at every point. -/
theorem body_obligation (c : Dev nD) : BodyObligation (dat (F := F) V c) (defs₀ (F := F)) Variants.none () Set.univ := fun t => by
  rw [bigSep_W0, bigSep_W0, defs₀_row]
  exact triple_restated (sound_body V c t) rfl .rfl fun _ => .rfl

/-- The other scoped buffers give what is held before the first point, -/
theorem inv_in (c : Dev nD) : (Pipeline.scopedRest spec0 c : sProp 𝕄) ⊢ (dat V c).Φ 0 := by
  rw [scopedRest_eq]; exact BI.Entails.refl _

/-- and what is held after the last gives them back. -/
theorem inv_out (c : Dev nD) : (dat V c).Φ (Fin.last cfg0.N) ⊢ (Pipeline.scopedRest spec0 c : sProp 𝕄) := by
  rw [scopedRest_eq, show (dat V c).Φ (Fin.last cfg0.N) = inv V c cfg0.N from rfl,
    inv_pos V c _ (by have : cfg0.N = 16 := N_0; omega)]
  iintro ⟨HS, Hr⟩
  isplitl [HS]; · iexists _; iexact HS
  iexact Hr

end Cert.KernelIdeal.Fwd

end
-- ==== Proof.KernelIdeal.BwdRun.lean ====
/- The body of the kernel's second call run once: from the blocks it is given and the scratch it finds, to the blocks and
   the scratch it leaves, at the grid's first point and at any later one. -/
module

public import proofs.«01_k».proof.Proof.KernelIdeal.Steps
public import Idealize.ShloMosaic.Lib.VecWindow

@[expose] public section

set_option maxRecDepth 16384

noncomputable section

namespace Cert.KernelIdeal.Bwd

open Cert.KernelIdeal.Gen Cert.KernelIdeal.Steps
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The condition under which the body clears its scratch. -/
abbrev cond (i : grid1.Coords) : Prop :=
  (Scalar.cmpi .ne (Scalar.extui (Scalar.cmpi .eq (BitVec.ofNat 32 (i 0).val) 0#32)) 0#32) = 1#1
/-- It holds at the grid's first point only. -/
theorem cond_iff (t : Fin cfg1.N) : cond (grid1.coords t) ↔ t.val = 0 := by
  have ht : t.val < 16 := Nat.lt_of_lt_of_eq t.isLt N_1
  have e0 : (grid1.coords t 0).val = t.val / 1 % 16 := Pipeline.Grid.coords_val t 0 (by decide) rfl
  have h : cond (grid1.coords t) ↔ t.val % 16 = 0 := by
    simp only [cond, e0]
    word_cmp
  rw [h]; omega

variable (c : Dev nD) (i : grid1.Coords)
  (arg1 : Memref sig .tc .vmem S1x1x512 .i32) (harg1 : arg1.IsWhole) (arg2 : Memref sig .tc .vmem S1x1x512 .i32) (harg2 : arg2.IsWhole)
  (arg3 : Memref sig .tc .vmem S1x512x1 .i32) (harg3 : arg3.IsWhole) (arg4 : Memref sig .tc .vmem S512x1024 .bf16) (harg4 : arg4.IsWhole)
  (arg5 : Memref sig .tc .vmem S512x1024 .bf16) (harg5 : arg5.IsWhole) (arg6 : Memref sig .tc .vmem S1x512x128 .bf16) (harg6 : arg6.IsWhole)
  (arg7 : Memref sig .tc .vmem S512x512 .f32) (harg7 : arg7.IsWhole) (arg8 : Memref sig .tc .vmem S1x512 .f32) (harg8 : arg8.IsWhole)
  (arg9 : Memref sig .tc .vmem S512x512 .f32) (harg9 : arg9.IsWhole) (arg10 : Memref sig .tc .vmem S512x128 .f32) (harg10 : arg10.IsWhole)
  (x0 x1 : Vec F S1x1x512 .i32) (x2 : Vec F S1x512x1 .i32) (x3 x4 : Vec F S512x1024 .bf16)
  (x5 : Vec F S1x512x128 .bf16) (x6 : Vec F S512x512 .f32) (x7 : Vec F S1x512 .f32)

/-- A load of one head's rows of the scratch. -/
theorem load_rows (s : Vec F S512x128 .f32) (h : Fin 8) :
    View.readAt (Elt F) arg10.view (rows h).toLoadRect (harg10.unread s) = View.ld s (rows h) := by
  rw [View.readAt_eq_ld, Memref.IsWhole.read_unread]

/-- The block of the result over the loads the body makes is the one over the blocks themselves. -/
theorem load_out (s : Vec F S512x128 .f32) :
    bwdOut (View.readAt (Elt F) arg1.view (Rect.unit ![0, 0, 0] S1x1x512.size inb_S1x1x512_S1x1x512_0_0_0).toLoadRect (harg1.unread x0))
      (View.readAt (Elt F) arg3.view (Rect.unit ![0, 0, 0] S1x512x1.size inb_S1x512x1_S1x512x1_0_0_0).toLoadRect (harg3.unread x2))
      (View.read (Elt F) arg4.view (harg4.unread x3)) (View.read (Elt F) arg5.view (harg5.unread x4))
      (View.read (Elt F) arg6.view (harg6.unread x5))
      (View.readAt (Elt F) arg7.view (Rect.unit ![0, 0] S512x512.size inb_S512x512_S512x512_0_0).toLoadRect (harg7.unread x6))
      (View.readAt (Elt F) arg8.view (Rect.unit ![0, 0] S1x512.size inb_S1x512_S1x512_0_0).toLoadRect (harg8.unread x7))
      (View.read (Elt F) arg10.view (harg10.unread s))
    = bwdOut x0 x2 x3 x4 x5 x6 x7 s := by
  simp only [View.readAt_eq_ld, Memref.IsWhole.read_unread]
  rw [View.ld_unit_lit' inb_S1x1x512_S1x1x512_0_0_0 x0 (by decide), View.ld_unit_lit' inb_S1x512x1_S1x512x1_0_0_0 x2 (by decide),
    View.ld_unit_lit' inb_S512x512_S512x512_0_0 x6 (by decide), View.ld_unit_lit' inb_S1x512_S1x512_0_0 x7 (by decide)]

/-- One head's update over the loads the body makes is the rows of that head in what the step leaves. -/
theorem load_head (s : Vec F S512x128 .f32) (h : Fin 8) (x : (rows h).shape.Idx) :
    headKv (k1_pay29
        (k1_pay5 (View.readAt (Elt F) arg1.view (Rect.unit ![0, 0, 0] S1x1x512.size inb_S1x1x512_S1x1x512_0_0_0).toLoadRect (harg1.unread x0)))
        (View.readAt (Elt F) arg2.view last.toLoadRect (harg2.unread x1)))
      (head h (k1_pay30
        (k1_pay4 (View.readAt (Elt F) arg3.view (Rect.unit ![0, 0, 0] S1x512x1.size inb_S1x512x1_S1x512x1_0_0_0).toLoadRect (harg3.unread x2)))
        (View.readAt (Elt F) arg2.view last.toLoadRect (harg2.unread x1))
        (View.readAt (Elt F) arg4.view keys.toLoadRect (harg4.unread x3))))
      (shapeCast S512x128 (View.readAt (Elt F) arg5.view (valCols h).toLoadRect (harg5.unread x4)) shapeCasts_S512x128_S512x128)
      (View.readAt (Elt F) arg10.view (rows h).toLoadRect (harg10.unread s)) x
    = bwdNext x0 x1 x2 x3 x4 s ((rows h).emb x) := by
  rw [bwdNext, ← stack_rows, load_rows]
  simp only [View.readAt_eq_ld, Memref.IsWhole.read_unread]
  rw [View.ld_unit_lit' inb_S1x1x512_S1x1x512_0_0_0 x0 (by decide), View.ld_unit_lit' inb_S1x512x1_S1x512x1_0_0_0 x2 (by decide)]

set_option maxHeartbeats 1000000 in
/-- At the first point: whatever the scratch holds, it is cleared first. -/
theorem run_first (hc0 : cond i) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
        ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare (bwdOut x0 x2 x3 x4 x5 x6 x7 (k1_pay2 (F := F)))
            ∗ owns (c : Thread nD τ) arg10 fullShare (bwdNext x0 x1 x2 x3 x4 (k1_pay2 (F := F)))) -∗ K ⟨⟩))
      ⊢ wp frame (wpE (defs₀ (F := F)) Variants.none c none) E
          (cc1__attn_bwd_kernel i arg1 harg1 arg2 harg2 arg3 harg3 arg4 harg4 arg5 harg5 arg6 harg6 arg7 harg7 arg8 harg8 arg9 harg9 arg10 harg10) K := by
  simp only [cc1__attn_bwd_kernel_eq_skeleton]; unfold cc1__attn_bwd_kernel_skel
  simp only [k1_part10_eq_skeleton]; unfold k1_part10_skel
  simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg7.eq_unread hf6; obtain rfl := harg8.eq_unread hf7
  set_option sl_exec.stopBefore "k1_part2" in sl_exec (disch := first | sl_exact hc0)
  rw [harg10.eq_unread (View.read_writes_full arg10.view fs0 inb_S512x128_S512x128_0_0 (k1_pay2 (F := F)) [])]
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; swap; · iexact H8
    ipureintro
    refine (View.read_writes_full _ _ _ _ _).trans ?_
    exact load_out arg1 harg1 arg3 harg3 arg4 harg4 arg5 harg5 arg6 harg6 arg7 harg7 arg8 harg8 arg10 harg10 x0 x2 x3 x4 x5 x6 x7 (k1_pay2 (F := F))
  · iexists _; isplitr; swap; · iexact HS0
    ipureintro
    funext y
    refine View.read_writes_apply_of_pieces _ _ _ _ ?_ y (View.cover_of_tiledL (s := S512x128) _ ![64, 128] (by sl_kernel_rfl) y)
    have piece := load_head arg1 harg1 arg2 harg2 arg3 harg3 arg4 harg4 arg5 harg5 arg10 harg10 x0 x1 x2 x3 x4 (k1_pay2 (F := F))
    exact List.forall_mem_cons.mpr ⟨piece 7, List.forall_mem_cons.mpr ⟨piece 6, List.forall_mem_cons.mpr ⟨piece 5, List.forall_mem_cons.mpr ⟨piece 4, List.forall_mem_cons.mpr ⟨piece 3, List.forall_mem_cons.mpr ⟨piece 2, List.forall_mem_cons.mpr ⟨piece 1, List.forall_mem_cons.mpr ⟨piece 0,
      fun _ h => absurd h List.not_mem_nil⟩⟩⟩⟩⟩⟩⟩⟩

set_option maxHeartbeats 1000000 in
/-- At a later point: the scratch is the one the point before it left. -/
theorem run_next (xs : Vec F S512x128 .f32) (hc0 : ¬cond i) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
        ∗ (∃ d, owns (c : Thread nD τ) arg9 fullShare d) ∗ owns (c : Thread nD τ) arg10 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare (bwdOut x0 x2 x3 x4 x5 x6 x7 xs)
            ∗ owns (c : Thread nD τ) arg10 fullShare (bwdNext x0 x1 x2 x3 x4 xs)) -∗ K ⟨⟩))
      ⊢ wp frame (wpE (defs₀ (F := F)) Variants.none c none) E
          (cc1__attn_bwd_kernel i arg1 harg1 arg2 harg2 arg3 harg3 arg4 harg4 arg5 harg5 arg6 harg6 arg7 harg7 arg8 harg8 arg9 harg9 arg10 harg10) K := by
  simp only [cc1__attn_bwd_kernel_eq_skeleton]; unfold cc1__attn_bwd_kernel_skel
  simp only [k1_part10_eq_skeleton]; unfold k1_part10_skel
  simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs0, %hfs0, HS0⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg7.eq_unread hf6; obtain rfl := harg8.eq_unread hf7; obtain rfl := harg10.eq_unread hfs0
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; swap; · iexact H8
    ipureintro
    refine (View.read_writes_full _ _ _ _ _).trans ?_
    exact load_out arg1 harg1 arg3 harg3 arg4 harg4 arg5 harg5 arg6 harg6 arg7 harg7 arg8 harg8 arg10 harg10 x0 x2 x3 x4 x5 x6 x7 xs
  · iexists _; isplitr; swap; · iexact HS0
    ipureintro
    funext y
    refine View.read_writes_apply_of_pieces _ _ _ _ ?_ y (View.cover_of_tiledL (s := S512x128) _ ![64, 128] (by sl_kernel_rfl) y)
    have piece := load_head arg1 harg1 arg2 harg2 arg3 harg3 arg4 harg4 arg5 harg5 arg10 harg10 x0 x1 x2 x3 x4 xs
    exact List.forall_mem_cons.mpr ⟨piece 7, List.forall_mem_cons.mpr ⟨piece 6, List.forall_mem_cons.mpr ⟨piece 5, List.forall_mem_cons.mpr ⟨piece 4, List.forall_mem_cons.mpr ⟨piece 3, List.forall_mem_cons.mpr ⟨piece 2, List.forall_mem_cons.mpr ⟨piece 1, List.forall_mem_cons.mpr ⟨piece 0,
      fun _ h => absurd h List.not_mem_nil⟩⟩⟩⟩⟩⟩⟩⟩

end Cert.KernelIdeal.Bwd

end
-- ==== Proof.KernelIdeal.BwdRegion.lean ====
/- The second call as a region of the program: what its windows hold at each grid point, the scratch carried from point to
   point, and the obligation its body meets there, for any contents of the arrays at entry. -/
module

public import proofs.«01_k».proof.Proof.KernelIdeal.BwdRun
public import proofs.«01_k».proof.Proof.Gen.KernelIdeal.Points
public import Idealize.ShloMosaic.Lib.Pipeline.RegionsLoop

@[expose] public section

set_option maxRecDepth 16384

noncomputable section

namespace Cert.KernelIdeal.Bwd

open Cert.KernelIdeal.Gen Cert.KernelIdeal.Steps
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks and the scratch -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The scratch before point `n`: zeros before the first, then what the point before left. -/
def scr (c : Dev nD) : ℕ → Vec F S512x128 .f32
  | 0 => k1_pay2 (F := F)
  | n + 1 => if h : n < cfg1.N then bwdNext (iblk V c 0 ⟨n, h⟩) (iblk V c 1 ⟨n, h⟩) (iblk V c 2 ⟨n, h⟩) (iblk V c 3 ⟨n, h⟩) (iblk V c 4 ⟨n, h⟩) (scr c n) else scr c n

theorem scr_succ (c : Dev nD) (t : Fin cfg1.N) :
    scr V c (t.val + 1) = bwdNext (iblk V c 0 t) (iblk V c 1 t) (iblk V c 2 t) (iblk V c 3 t) (iblk V c 4 t) (scr V c t.val) := by
  rw [scr, dif_pos t.isLt]

/-- The scratch as a memory reference. -/
abbrev scM : Memref sig .tc .vmem S512x128 .f32 := Memref.whole cc1_scratch0

/-- What the core holds beside the staging buffers and the scratch: every other scoped buffer, at anything. -/
def rest (c : Dev nD) : sProp 𝕄 :=
  bigSep ((((Finset.univ.filter fun b : Ref sig .tc => b.isScoped) \ Finset.univ.image (Pipeline.stageRef spec1))).erase cc1_scratch0)
    fun b => iprop(∃ f : Buf (Elt F) ((c.tc : Thread nD τ).loc b), ((c.tc : Thread nD τ).loc b) ↦{fullShare} f)

theorem scopedRest_eq (c : Dev nD) :
    (Pipeline.scopedRest spec1 c : sProp 𝕄) = iprop((∃ d, owns (c : Thread nD τ) scM fullShare d) ∗ rest c) := by
  have hm : cc1_scratch0 ∈ ((Finset.univ.filter fun b : Ref sig .tc => b.isScoped) \ Finset.univ.image (Pipeline.stageRef spec1)) := by decide
  unfold Pipeline.scopedRest rest
  rw [← Finset.insert_erase hm, bigSep_insert (Finset.notMem_erase _ _), Finset.erase_insert (Finset.notMem_erase _ _)]
  simp only [scM, owns_whole]
  rfl

/-- What is held before point `n` beside the windows: the scratch, at anything before the first point and at `scr` later,
    and the rest. -/
def inv (c : Dev nD) : ℕ → sProp 𝕄
  | 0 => iprop((∃ d, owns (c : Thread nD τ) scM fullShare d) ∗ rest c)
  | n + 1 => iprop(owns (c : Thread nD τ) scM fullShare (scr V c (n + 1)) ∗ rest c)

theorem inv_pos (c : Dev nD) (n : ℕ) (h : n ≠ 0) :
    inv V c n = iprop(owns (c : Thread nD τ) scM fullShare (scr V c n) ∗ rest c) := by
  cases n with
  | zero => exact absurd rfl h
  | succ n => rfl

/-! ## The proof data -/

/-- The region's data on core `c`: the arrays as found, what each window's buffer holds after the body at each point, what is
    held between points, each window's share of its array, nothing owed. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => bwdOut (iblk V c 0 t) (iblk V c 2 t) (iblk V c 3 t) (iblk V c 4 t) (iblk V c 5 t) (iblk V c 6 t) (iblk V c 7 t) (scr V c t.val)
  Φ t := inv V c t.val
  q w := Pipeline.shareOf spec1 w
  owed _ := 0

theorem dat_A (c : Dev nD) (w : Fin cfg1.W) : (dat V c).A w = V c (Pipeline.arrRef spec1 w) := by
  dsimp only [dat]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) : (dat V c).after 5 t = iblk V c 5 t := by dsimp only [dat]
theorem after_6 (c : Dev nD) (t : Fin cfg1.N) : (dat V c).after 6 t = iblk V c 6 t := by dsimp only [dat]
theorem after_7 (c : Dev nD) (t : Fin cfg1.N) : (dat V c).after 7 t = iblk V c 7 t := by dsimp only [dat]
theorem after_8 (c : Dev nD) (t : Fin cfg1.N) : (dat V c).after 8 t = bwdOut (iblk V c 0 t) (iblk V c 2 t) (iblk V c 3 t) (iblk V c 4 t) (iblk V c 5 t) (iblk V c 6 t) (iblk V c 7 t) (scr V c t.val) := by dsimp only [dat]

/-! Each input window holds its block at every point, whether fetched there or earlier. -/

theorem before_0 (c : Dev nD) (t : Fin cfg1.N) (d) : (dat V c).before 0 t d = iblk V c 0 t :=
  ((dat V c).before_in_eq_fetched 0 rfl (fun _ => rfl) (fun _ _ _ => rfl) (fun t => by rw [after_0]; unfold Dat.blockOf iblk; rw [dat_A]; try rfl) t d).trans
    (by unfold Dat.fetched Dat.blockOf iblk; rw [dat_A]; try rfl)
theorem before_1 (c : Dev nD) (t : Fin cfg1.N) (d) : (dat V c).before 1 t d = iblk V c 1 t :=
  ((dat V c).before_in_eq_fetched 1 rfl (fun _ => rfl) (fun _ _ _ => rfl) (fun t => by rw [after_1]; unfold Dat.blockOf iblk; rw [dat_A]; try rfl) t d).trans
    (by unfold Dat.fetched Dat.blockOf iblk; rw [dat_A]; try rfl)
theorem before_2 (c : Dev nD) (t : Fin cfg1.N) (d) : (dat V c).before 2 t d = iblk V c 2 t :=
  ((dat V c).before_in_eq_fetched 2 rfl (fun _ => rfl) (fun _ _ _ => rfl) (fun t => by rw [after_2]; unfold Dat.blockOf iblk; rw [dat_A]; try rfl) t d).trans
    (by unfold Dat.fetched Dat.blockOf iblk; rw [dat_A]; try rfl)
theorem before_3 (c : Dev nD) (t : Fin cfg1.N) (d) : (dat V c).before 3 t d = iblk V c 3 t :=
  ((dat V c).before_in_eq_fetched 3 rfl (fun _ => rfl) (fun _ _ _ => rfl) (fun t => by rw [after_3]; unfold Dat.blockOf iblk; rw [dat_A]; try rfl) t d).trans
    (by unfold Dat.fetched Dat.blockOf iblk; rw [dat_A]; try rfl)
theorem before_4 (c : Dev nD) (t : Fin cfg1.N) (d) : (dat V c).before 4 t d = iblk V c 4 t :=
  ((dat V c).before_in_eq_fetched 4 rfl (fun _ => rfl) (fun _ _ _ => rfl) (fun t => by rw [after_4]; unfold Dat.blockOf iblk; rw [dat_A]; try rfl) t d).trans
    (by unfold Dat.fetched Dat.blockOf iblk; rw [dat_A]; try rfl)
theorem before_5 (c : Dev nD) (t : Fin cfg1.N) (d) : (dat V c).before 5 t d = iblk V c 5 t :=
  ((dat V c).before_in_eq_fetched 5 rfl (fun _ => rfl) (fun _ _ _ => rfl) (fun t => by rw [after_5]; unfold Dat.blockOf iblk; rw [dat_A]; try rfl) t d).trans
    (by unfold Dat.fetched Dat.blockOf iblk; rw [dat_A]; try rfl)
theorem before_6 (c : Dev nD) (t : Fin cfg1.N) (d) : (dat V c).before 6 t d = iblk V c 6 t :=
  ((dat V c).before_in_eq_fetched 6 rfl (fun _ => rfl) (fun _ _ _ => rfl) (fun t => by rw [after_6]; unfold Dat.blockOf iblk; rw [dat_A]; try rfl) t d).trans
    (by unfold Dat.fetched Dat.blockOf iblk; rw [dat_A]; try rfl)
theorem before_7 (c : Dev nD) (t : Fin cfg1.N) (d) : (dat V c).before 7 t d = iblk V c 7 t :=
  ((dat V c).before_in_eq_fetched 7 rfl (fun _ => rfl) (fun _ _ _ => rfl) (fun t => by rw [after_7]; unfold Dat.blockOf iblk; rw [dat_A]; try rfl) t d).trans
    (by unfold Dat.fetched Dat.blockOf iblk; rw [dat_A]; try rfl)

/-! ## The body's obligation -/

/-- What the body is called with at point `t`, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d))
    ∗ (∃ d, owns (c : Thread nD τ) (st1_7 t) fullShare ((dat V c).before 7 t d))
    ∗ (∃ d, owns (c : Thread nD τ) (st1_8 t) fullShare ((dat V c).before 8 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t)
    ∗ owns (c : Thread nD τ) (st1_6 t) fullShare ((dat V c).after 6 t)
    ∗ owns (c : Thread nD τ) (st1_7 t) fullShare ((dat V c).after 7 t)
    ∗ owns (c : Thread nD τ) (st1_8 t) fullShare ((dat V c).after 8 t))

set_option maxHeartbeats 1000000 in
/-- The body at any point: its run from the blocks and the scratch, at the first point or at a later one. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4, before_5, before_6, before_7]
  rw [show (dat V c).owesAt () t.succ = (dat V c).owesAt () t.castSucc from rfl,
    after_0, after_1, after_2, after_3, after_4, after_5, after_6, after_7, after_8,
    show (dat V c).Φ t.castSucc = inv V c t.val from rfl,
    show (dat V c).Φ t.succ = iprop(owns (c : Thread nD τ) scM fullShare (scr V c (t.val + 1)) ∗ rest c) from rfl, scr_succ]
  by_cases hz : t.val = 0
  · rw [show inv V c t.val = inv V c 0 from congrArg _ hz, show scr V c t.val = k1_pay2 from (congrArg _ hz).trans rfl]
    unfold inv
    iintro ⟨⟨HS, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run_first c (grid1.coords t) _ _ _ _ _ _ _ _ _ _ _ _ _ _ _ _ _ _ _ _ (iblk V c 0 t) (iblk V c 1 t) (iblk V c 2 t) (iblk V c 3 t) (iblk V c 4 t) (iblk V c 5 t) (iblk V c 6 t) (iblk V c 7 t) ((cond_iff t).mpr hz) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS]; · iexact HS
    iintro ⟨H0, H1, H2, H3, H4, H5, H6, H7, H8, HS⟩
    isplitl [HS Hr]
    · isplitl [HS]; · iexact HS
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · rw [inv_pos V c _ hz]
    iintro ⟨⟨HS, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run_next c (grid1.coords t) _ _ _ _ _ _ _ _ _ _ _ _ _ _ _ _ _ _ _ _ (iblk V c 0 t) (iblk V c 1 t) (iblk V c 2 t) (iblk V c 3 t) (iblk V c 4 t) (iblk V c 5 t) (iblk V c 6 t) (iblk V c 7 t) (scr V c t.val) (fun h => hz ((cond_iff t).mp h)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS]; · iexact HS
    iintro ⟨H0, H1, H2, H3, H4, H5, H6, H7, H8, HS⟩
    isplitl [HS Hr]
    · isplitl [HS]; · iexact HS
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

/-- The body's row at point `t`'s buffers is the body there. -/
theorem defs₀_row (t : Fin cfg1.N) :
    defs₀ (F := F) .tc cfg1.body (cfg1.bodyArgs t (cfg1.slots t)) = bodyAt1 t := by
  unfold defs₀; rw [Defs.onTc_tc]

/-- The obligation at every point. -/
theorem body_obligation (c : Dev nD) : BodyObligation (dat (F := F) V c) (defs₀ (F := F)) Variants.none () Set.univ := fun t => by
  rw [bigSep_W1, bigSep_W1, defs₀_row]
  exact triple_restated (sound_body V c t) rfl .rfl fun _ => .rfl

/-- The other scoped buffers give what is held before the first point, -/
theorem inv_in (c : Dev nD) : (Pipeline.scopedRest spec1 c : sProp 𝕄) ⊢ (dat V c).Φ 0 := by
  rw [scopedRest_eq]; exact BI.Entails.refl _

/-- and what is held after the last gives them back. -/
theorem inv_out (c : Dev nD) : (dat V c).Φ (Fin.last cfg1.N) ⊢ (Pipeline.scopedRest spec1 c : sProp 𝕄) := by
  rw [scopedRest_eq, show (dat V c).Φ (Fin.last cfg1.N) = inv V c cfg1.N from rfl,
    inv_pos V c _ (by have : cfg1.N = 16 := N_1; omega)]
  iintro ⟨HS, Hr⟩
  isplitl [HS]; · iexists _; iexact HS
  iexact Hr

end Cert.KernelIdeal.Bwd

end
-- ==== Proof.KernelIdeal.Run.lean ====
/- The whole program's run: the two calls as regions between the host operations, what every array holds between them, and the
   final memory — the arguments as launched, the result's array as the second call's write-backs leave it. -/
module

public import proofs.«01_k».proof.Proof.KernelIdeal.FwdRegion
public import proofs.«01_k».proof.Proof.KernelIdeal.BwdRegion
public import proofs.«01_k».proof.Proof.Gen.KernelIdeal.Regions

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation RegionSeg)

variable {F : FTy → Type} [FloatOps F]

local notation "𝕄" => MT nD τ sig Unit (Elt F) ℕ (UR sig nD τ) ℕ

/-- A valuation read at a core's references. -/
abbrev atRefs (W : Dev nD → Valuation τ sig (Elt F)) (c : Dev nD) (b : Ref sig .tc) : Buf (Elt F) ((c : Thread nD τ).loc b) := W c b

variable (m : (ℓ : Loc nD τ sig) → Buf (Elt F) ℓ)

/-- The first call's data: entered from the arrays after the first host operations. -/
abbrev fwdDat (c : Dev nD) : Dat τ (Elt F) Unit ℕ (UR sig nD τ) ℕ cfg0 c := Fwd.dat (atRefs (V1 m)) c

/-- The arrays after the first call: its three results written. -/
def afterFwd (c : Dev nD) : Valuation τ sig (Elt F) :=
  Function.update (Function.update (Function.update (V1 m c) main_v4_0 ((fwdDat m c).arrAt 5 cfg0.N)) main_v4_1 ((fwdDat m c).arrAt 6 cfg0.N))
    main_v4_2 ((fwdDat m c).arrAt 7 cfg0.N)

/-- The arrays the second call is entered from. -/
def beforeBwd (c : Dev nD) : Valuation τ sig (Elt F) := StableHlo.after hostOps1 (afterFwd m c)

/-- The second call's data: entered from those. -/
abbrev bwdDat (c : Dev nD) : Dat τ (Elt F) Unit ℕ (UR sig nD τ) ℕ cfg1 c := Bwd.dat (atRefs (beforeBwd m)) c

/-- The result: its array after the second call's last write-back. -/
def result (c : Dev nD) : Buf (Elt F) ((c : Thread nD τ).loc main_v6) := (bwdDat m c).arrAt 8 cfg1.N

/-- The arrays at the end. -/
def atEnd (c : Dev nD) : Valuation τ sig (Elt F) := Function.update (beforeBwd m c) main_v6 (result m c)

/-- What the two calls leave in the arrays they write. -/
def outs : Outs (F := F) := fun J r c => if J = 2 then afterFwd m c r else atEnd m c r

theorem outs_two (r : Ref sig .tc) (c : Dev nD) : outs m 2 r c = afterFwd m c r := if_pos rfl
theorem outs_four (r : Ref sig .tc) (c : Dev nD) : outs m 4 r c = atEnd m c r := if_neg (by decide)

theorem afterFwd_qk (c : Dev nD) : afterFwd m c main_v4_0 = (fwdDat m c).arrAt 5 cfg0.N := by
  unfold afterFwd
  rw [Function.update_of_ne (StableHlo.devRef_ne_of_ne (by decide)), Function.update_of_ne (StableHlo.devRef_ne_of_ne (by decide)), Function.update_self]
theorem afterFwd_va (c : Dev nD) : afterFwd m c main_v4_1 = (fwdDat m c).arrAt 6 cfg0.N := by
  unfold afterFwd
  rw [Function.update_of_ne (StableHlo.devRef_ne_of_ne (by decide)), Function.update_self]
theorem afterFwd_kv (c : Dev nD) : afterFwd m c main_v4_2 = (fwdDat m c).arrAt 7 cfg0.N := by
  unfold afterFwd
  rw [Function.update_self]
theorem afterFwd_of (c : Dev nD) (b : Ref sig .tc) (h : b ∉ ([main_v4_0, main_v4_1, main_v4_2] : List (Ref sig .tc))) : afterFwd m c b = V1 m c b := by
  simp only [List.mem_cons, List.not_mem_nil, or_false, not_or] at h
  unfold afterFwd
  rw [Function.update_of_ne (StableHlo.devRef_ne_of_ne h.2.2), Function.update_of_ne (StableHlo.devRef_ne_of_ne h.2.1), Function.update_of_ne (StableHlo.devRef_ne_of_ne h.1)]
theorem atEnd_result (c : Dev nD) : atEnd m c main_v6 = result m c := Function.update_self ..
theorem atEnd_of (c : Dev nD) (b : Ref sig .tc) (h : b ≠ main_v6) : atEnd m c b = beforeBwd m c b := Function.update_of_ne (StableHlo.devRef_ne_of_ne h) ..

theorem V2_outs (c : Dev nD) : V2 m (outs m) c = afterFwd m c := by
  unfold V2
  rw [outs_two, outs_two, outs_two, afterFwd_qk, afterFwd_va, afterFwd_kv]
  unfold afterFwd
  rfl
theorem V3_outs (c : Dev nD) : V3 m (outs m) c = beforeBwd m c := by
  unfold V3 beforeBwd; rw [V2_outs]
theorem V4_outs (c : Dev nD) : V4 m (outs m) c = atEnd m c := by
  unfold V4
  rw [outs_four, V3_outs, atEnd_result]
  unfold atEnd
  rfl

/-! ## The regions -/

/-- Both calls' data. -/
def dats : (p : Fin 2) → (c : Dev nD) → Dat τ (Elt F) Unit ℕ (UR sig nD τ) ℕ (cfgs p) c
  | ⟨0, _⟩ => fun c => fwdDat m c
  | ⟨1, _⟩ => fun c => bwdDat m c

/-- No core owes another anything: no level is assigned. -/
abbrev L : GSem nD τ sig → Finset Unit := fun _ => ∅
abbrev lv : GSem nD τ sig → Unit → ℕ := fun _ _ => 0

/-- What rides beside the arrays between items: that the core owes nothing. -/
abbrev owesNothing (c : Dev nD) : sProp 𝕄 := iprop(∃ W, owes (c : Thread nD τ) (0 : CellTallies nD τ sig Unit) W)

/-- Every unscoped array held at a valuation, and nothing owed. -/
abbrev heldAt (W : Dev nD → Valuation τ sig (Elt F)) (c : Dev nD) : sProp 𝕄 :=
  iprop(StableHlo.held (c : Thread nD τ) (Pipeline.ucRefs τ sig) (W c) ∗ owesNothing c)

set_option backward.isDefEq.respectTransparency.types false in
/-- A call as a segment, entered from every unscoped array at `W` and left with them at `W'`: its data reads its arrays off `W`,
    its arrays' final contents are `W'`'s, and `W'` differs from `W` at its arrays only. -/
def region (p : Fin 2) (kit : Pipeline.LaunchFacts₀ (nD := nD) (τ := τ) cfgs p)
    (hbody : ∀ c, BodyObligation (dats (F := F) m p c) (defs₀ (F := F)) Variants.none () Set.univ)
    (howed : ∀ c t, (dats (F := F) m p c).owed t = 0)
    (hrec : ∀ c, (dats (F := F) m p c).recorded 0 = Set.univ)
    (hq : ∀ c w, (dats (F := F) m p c).q w = Pipeline.shareOf (cfgs p).spec w)
    (hin : ∀ c, (Pipeline.scopedRest (cfgs p).spec c : sProp 𝕄) ⊢ (dats m p c).Φ 0)
    (hout : ∀ c, (dats m p c).Φ (Fin.last (cfgs p).N) ⊢ (Pipeline.scopedRest (cfgs p).spec c : sProp 𝕄))
    (hpre : ∀ c, (BI.emp : sProp 𝕄) ⊢ Pipeline.prefHeld (pcfgs (F := F) p).pre c (fun _ => fullShare) (adm (F := F) p).1)
    (W W' : Dev nD → Valuation τ sig (Elt F))
    (hA : ∀ c w, (dats m p c).A w = W c (Proc.devRef .tc (Pipeline.arrRef (cfgs p).spec w)))
    (hF : ∀ c w, (dats m p c).arrAt w (cfgs p).N = W' c (Proc.devRef .tc (Pipeline.arrRef (cfgs p).spec w)))
    (hrest : ∀ c (b : Ref sig .tc), b ∉ Finset.univ.image (Pipeline.arrRef (cfgs p).spec) → W' c b = W c b) :
    RegionSeg (pcfgs (F := F)) adm (dats m) () defs₀ Variants.none L lv p where
  win := kit.win
  block_pos := kit.block_pos
  stage_whole := kit.stage_whole
  K := PEmpty
  osem k := k.elim
  ho := Pipeline.OwnSemFacts.none _
  hbody c := (hbody c).loose
  hwaits := Pipeline.hwaits_of_owed_zero _ _ _ _ L lv p howed
  pre := heldAt W
  post := heldAt W'
  X _ := BI.emp
  Y _ := BI.emp
  Z c := Pipeline.unscopedRest (Ix := Unit) (Name := ℕ) (U := UR sig nD τ) (Lvl := ℕ) (cfgs p).spec c (atRefs W c)
  hentry c := by
    rw [Pipeline.ownSems0_none]
    have hsplit := Pipeline.arrays_of_unscopedBufs_shared (p := p) (pcfgs (F := F)) adm (dats m) kit.win kit.sharedIn kit.arr_whole c
      (fun w _ => hq c w) (atRefs W c) (hA c)
    unfold heldAt
    rw [← Pipeline.unscopedBufs_held c (W c)]
    iintro ⟨⟨Hub, HO⟩, -, -⟩
    ihave H := hsplit $$ Hub
    icases H with ⟨Ha, Hrest⟩
    imodintro
    isplitl [Ha]; · iexact Ha
    isplitr; · iapply (hpre c); iempintro
    isplitl [HO]
    · unfold Pipeline.Dat.owesAt Pipeline.owesWithin
      rw [howed c]
      icases HO with ⟨%W, HO⟩; iexists W; isplitr; · ipureintro; exact fun _ _ => (Or.inl (hrec c ▸ trivial))
      iexact HO
    isplitr; · iempintro
    iexact Hrest
  hin c := by
    iintro ⟨-, -, Hr⟩; iapply (hin c); iexact Hr
  hout c := by
    rw [Pipeline.ownSems0_none]
    iintro Hr
    isplitr; · iempintro
    isplitr; · iempintro
    iapply (hout c); iexact Hr
  hexit c := by
    have hjoin := Pipeline.unscopedBufs_of_arrays_shared (p := p) (pcfgs (F := F)) adm (Ix := Unit) (Name := ℕ) (U := UR sig nD τ) (Lvl := ℕ)
      kit.win kit.sharedIn kit.arr_whole c (dats m) (fun w _ => hq c w) (atRefs W c) (atRefs W' c) ((dats m p c).arrAt · (cfgs p).N) (hF c) (hrest c)
    unfold heldAt
    rw [← Pipeline.unscopedBufs_held c (W' c)]
    iintro ⟨Ha, HO, -, Hrest⟩
    imodintro
    isplitl [Ha Hrest]
    · iapply hjoin; isplitl [Ha] <;> iassumption
    unfold Pipeline.Dat.owesAt Pipeline.owesWithin
    rw [howed c]
    icases HO with ⟨%W, -, HO⟩; iexists W; iexact HO

/-- The first call. -/
def reg0 : RegionSeg (pcfgs (F := F)) adm (dats m) () defs₀ Variants.none L lv 0 :=
  region m 0 launch₀0 (Fwd.body_obligation _) (fun _ _ => rfl) (fun _ => rfl) (fun _ _ => rfl) (Fwd.inv_in _) (Fwd.inv_out _)
    (fun c => by unfold Pipeline.prefHeld; rw [show (Finset.univ : Finset (Fin 0)) = ∅ from rfl, BI.bigSep_empty])
    (V1 m) (afterFwd m) (fun c w => Fwd.dat_A _ c w)
    (fun c w => by
      fin_cases w
      · exact ((fwdDat m c).arrAt_in 0 rfl _).trans (afterFwd_of m c main_v0 (by decide)).symm
      · exact ((fwdDat m c).arrAt_in 1 rfl _).trans (afterFwd_of m c main_v0 (by decide)).symm
      · exact ((fwdDat m c).arrAt_in 2 rfl _).trans (afterFwd_of m c main_v1 (by decide)).symm
      · exact ((fwdDat m c).arrAt_in 3 rfl _).trans (afterFwd_of m c main_v2 (by decide)).symm
      · exact ((fwdDat m c).arrAt_in 4 rfl _).trans (afterFwd_of m c main_v3 (by decide)).symm
      · exact (afterFwd_qk m c).symm
      · exact (afterFwd_va m c).symm
      · exact (afterFwd_kv m c).symm)
    (fun c b hb => afterFwd_of m c b fun h => hb (by
      simp only [List.mem_cons, List.not_mem_nil, or_false] at h
      rcases h with rfl | rfl | rfl <;> decide))

/-- The second call. -/
def reg1 : RegionSeg (pcfgs (F := F)) adm (dats m) () defs₀ Variants.none L lv 1 :=
  region m 1 launch₀1 (Bwd.body_obligation _) (fun _ _ => rfl) (fun _ => rfl) (fun _ _ => rfl) (Bwd.inv_in _) (Bwd.inv_out _)
    (fun c => by unfold Pipeline.prefHeld; rw [show (Finset.univ : Finset (Fin 0)) = ∅ from rfl, BI.bigSep_empty])
    (beforeBwd m) (atEnd m) (fun c w => Bwd.dat_A _ c w)
    (fun c w => by
      fin_cases w
      · exact ((bwdDat m c).arrAt_in 0 rfl _).trans (atEnd_of m c main_v0 (by decide)).symm
      · exact ((bwdDat m c).arrAt_in 1 rfl _).trans (atEnd_of m c main_v0 (by decide)).symm
      · exact ((bwdDat m c).arrAt_in 2 rfl _).trans (atEnd_of m c main_v1 (by decide)).symm
      · exact ((bwdDat m c).arrAt_in 3 rfl _).trans (atEnd_of m c main_v4_0 (by decide)).symm
      · exact ((bwdDat m c).arrAt_in 4 rfl _).trans (atEnd_of m c main_v4_1 (by decide)).symm
      · exact ((bwdDat m c).arrAt_in 5 rfl _).trans (atEnd_of m c main_v4_2 (by decide)).symm
      · exact ((bwdDat m c).arrAt_in 6 rfl _).trans (atEnd_of m c main_arg2 (by decide)).symm
      · exact ((bwdDat m c).arrAt_in 7 rfl _).trans (atEnd_of m c main_v5 (by decide)).symm
      · exact (atEnd_result m c).symm)
    (fun c b hb => atEnd_of m c b fun h => hb (by subst h; decide))

/-! ## The run -/

theorem toSeg2 (c : Dev nD) : heldAt (afterFwd m) c ⊢ iprop(StableHlo.held (c : Thread nD τ) (Pipeline.ucRefs τ sig) (V2 m (outs m) c) ∗ owesNothing c) := by
  rw [V2_outs]
theorem ofSeg2 (c : Dev nD) : iprop(StableHlo.held (c : Thread nD τ) (Pipeline.ucRefs τ sig) (V3 m (outs m) c) ∗ owesNothing c) ⊢ heldAt (beforeBwd m) c := by
  rw [V3_outs]

/-- The launch's element: the pipelines' tokens. -/
def u₀ : UR sig nD τ := initOf (Pipeline.cells cfgs cellOf_inj) (Pipeline.launchToks cfgs cellOf_inj)

set_option backward.isDefEq.respectTransparency.types false in
/-- From any memory with zero counters: every weakly fair execution of @main terminates, and every final state has the result's
    array at `result`, the arguments as launched and every semaphore counter at zero. -/
theorem run (ρ : Dev nD → PrngReg) :
    θ_run defs (onTc (τ := τ) (main (F := F))) ⟨m, fun _ => 0, ρ⟩ (fun r => (∀ c : Dev nD,
      r.2.mem ((c.tc : Thread nD τ).loc main_v6) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) := by
  refine Pipeline.θ_run_regions_kit_dev_sems (pcfgs (F := F)) adm (dats m) () cellOf_inj emb₁ defs₀ Variants.none L lv m ρ main
    (segs m (outs m) Variants.none L lv (fun _ => owesNothing) () (dats m) (reg0 m) (reg1 m))
    (fun c Q => by
      rewrite [main_chain c, Pipeline.Seg.run_eq_chain,
        show (segs m (outs m) Variants.none L lv (fun _ => owesNothing) () (dats m) (reg0 m) (reg1 m) c).map Pipeline.Seg.prog = [
          StableHlo.seq hostOps0,
          Prog.lift (.customCall (Pipeline.entry 0) ()),
          StableHlo.seq hostOps1,
          Prog.lift (.customCall (Pipeline.entry 1) ()) ] from rfl]
      dsimp (config := { failIfUnchanged := false }) only
      exact .rfl)
    (fun c => by simp only [segs, Pipeline.Seg.pipes_host, Pipeline.Seg.pipes_region, Pipeline.Seg.pipes_nil]; decide) (O₀ := 0) (hL := fun _ _ => rfl)
    (G := fun _ => iprop(emp)) (u₀ := u₀)
    (hu₀ := ?_)
    (T₀ := heldAt (V0 m)) (Tₙ := fun c => StableHlo.held (c : Thread nD τ) (Pipeline.ucRefs τ sig) (atEnd m c))
    (hch := fun c => ⟨.rfl, .rfl, toSeg2 m c, ofSeg2 m c, .rfl⟩)
    (hinit := ?_)
    (QY := fun c s => s.mem ((c.tc : Thread nD τ).loc main_v6) = result m c
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6))
    (hfin := fun c s' => ?_)
    (hQ := fun _ h hz => ⟨h, funext fun g => hz g (.inr (regions_no_unscoped g.2))⟩)
  · unfold u₀
    iintro Hu
    imodintro
    isplitl [Hu]; · iapply (show (ownU _ : sProp 𝕄) ⊢ BI.own (emb₁ (initOf (Pipeline.cells cfgs cellOf_inj) (Pipeline.launchToks cfgs cellOf_inj))) from .rfl); iexact Hu
    iapply (show (BI.emp : sProp 𝕄) ⊢ bigSep Finset.univ (fun _ : Dev nD => (BI.emp : sProp 𝕄)) from by rw [BI.bigSep_emp_const])
    iempintro
  · refine Pipeline.initEach L lv fun c => ?_
    unfold heldAt
    rw [← Pipeline.unscopedBufs_held c (V0 m c)]
    iintro ⟨⟨Hh, -, HO, -, -, -⟩, -⟩
    imodintro
    isplitl [Hh]; · iexact Hh
    iexists ∅; iexact HO
  · unfold StableHlo.held
    iintro ⟨Hh, HSI⟩
    ihave Hr := (pointsTo_read_all (Pipeline.ucRefs τ sig) (fun b => ((c : Thread nD τ).1, b)) (atEnd m c) s') $$ [Hh HSI]
    · isplitl [Hh] <;> iassumption
    icases Hr with ⟨%h, HSI⟩
    imodintro
    isplitr
    · ipureintro
      have hr : ∀ b : Ref sig .tc, Proc.devRef .tc b ∈ Pipeline.ucRefs τ sig → s'.mem.mem ((c.tc : Thread nD τ).loc b) = V4 m (outs m) c b :=
        fun b hb => by rw [V4_outs]; exact h _ hb
      have hm : ∀ b : Ref sig .tc, ¬ (Proc.devRef .tc b : DevRef τ sig).isScoped → Proc.devRef .tc b ∈ Pipeline.ucRefs τ sig :=
        fun b hb => Finset.mem_filter.mpr ⟨StableHlo.devRef_mem_tcRefs b, hb⟩
      exact ⟨(h _ (hm main_v6 (by decide))).trans (atEnd_result m c),
        (hr _ (hm main_arg0 (by decide))).trans (V4_main_arg0 m _ c),
        (hr _ (hm main_arg1 (by decide))).trans (V4_main_arg1 m _ c),
        (hr _ (hm main_arg2 (by decide))).trans (V4_main_arg2 m _ c),
        (hr _ (hm main_arg3 (by decide))).trans (V4_main_arg3 m _ c),
        (hr _ (hm main_arg4 (by decide))).trans (V4_main_arg4 m _ c),
        (hr _ (hm main_arg5 (by decide))).trans (V4_main_arg5 m _ c),
        (hr _ (hm main_arg6 (by decide))).trans (V4_main_arg6 m _ c)⟩
    · iexact HSI

end Cert.KernelIdeal.Run

end
-- ==== Proof.KernelIdeal.Blocks.lean ====
/- The blocks the two calls read and write, element by element: where each sits in its array, and what the arrays the calls
   leave hold there. -/
module

public import proofs.«01_k».proof.Proof.KernelIdeal.Run
public import Idealize.ShloMosaic.Lib.Pipeline.Value
public import Idealize.ShloMosaic.Lib.Pointwise
public import Idealize.ShloMosaic.Lib.ValueIdx

@[expose] public section

set_option maxRecDepth 16384

noncomputable section

namespace Cert.KernelIdeal.Blocks

open Cert.KernelIdeal.Gen Cert.KernelIdeal.Steps Cert.KernelIdeal.Run
open Idealize.ShloMosaic Idealize.ShloMosaic.TcCoe Idealize.SL.Sem
open Idealize.ShloMosaic.Pipeline (Dat)

variable {F : FTy → Type} [FloatOps F]

/-- Row `i` of block `b`. -/
abbrev row (b : ℕ) (hb : b < 16) (i : Fin 512) : Fin 8192 := ⟨512 * b + i.val, by omega⟩

theorem at2 {n k : ℕ} (x : (⟨2, ![n, k]⟩ : Shape).Idx) (i : Fin n) (j : Fin k) (h0 : (x 0).val = i.val) (h1 : (x 1).val = j.val) : x = ix2 i j := by
  funext a
  match a with
  | ⟨0, _⟩ => exact Fin.ext h0
  | ⟨1, _⟩ => exact Fin.ext h1

theorem at3 {n k l : ℕ} (x : (⟨3, ![n, k, l]⟩ : Shape).Idx) (i : Fin n) (j : Fin k) (r : Fin l) (h0 : (x 0).val = i.val) (h1 : (x 1).val = j.val)
    (h2 : (x 2).val = r.val) : x = ix3 i j r := by
  funext a
  match a with
  | ⟨0, _⟩ => exact Fin.ext h0
  | ⟨1, _⟩ => exact Fin.ext h1
  | ⟨2, _⟩ => exact Fin.ext h2

variable (V : (c : Dev nD) → (b : Ref sig .tc) → Buf (Elt F) ((c : Thread nD τ).loc b)) (c : Dev nD)

/-! ## The first call: block `t` at point `t` -/

section Fwd

variable (t : Fin cfg0.N)

theorem lt0 : t.val < 16 := t.isLt

theorem index0_0 : ∀ t : Fin grid0.N, win0_0.index t 0 = t.val := by decide +kernel
theorem index0_1 : ∀ t : Fin grid0.N, win0_1.index t 0 = min (t.val + 1) 15 := by decide +kernel
theorem index0_2 : ∀ t : Fin grid0.N, win0_2.index t 0 = t.val := by decide +kernel
theorem index0_3 : ∀ t : Fin grid0.N, win0_3.index t 0 = t.val := by decide +kernel
theorem index0_5 : ∀ t : Fin grid0.N, win0_5.index t 0 = t.val := by decide +kernel
theorem index0_6 : ∀ t : Fin grid0.N, win0_6.index t 0 = t.val := by decide +kernel
theorem index0_7 : ∀ t : Fin grid0.N, win0_7.index t 0 = t.val := by decide +kernel

theorem block0_0 (j : Fin 512) : Fwd.iblk V c 0 t (ix3 0 0 j) = V c main_v0 (ix3 ⟨t.val, lt0 t⟩ 0 j) :=
  congrArg (V c main_v0) (at3 (((cfg0.win 0).blk t).view.emb (ix3 0 0 j)) _ _ _ (by show win0_0.index t 0 * 1 + 1 * 0 = t.val; rw [index0_0]; omega) rfl (by show 0 * 512 + 1 * j.val = j.val; omega))
theorem block0_1 (j : Fin 512) : Fwd.iblk V c 1 t (ix3 0 0 j) = V c main_v0 (ix3 ⟨min (t.val + 1) 15, by omega⟩ 0 j) :=
  congrArg (V c main_v0) (at3 (((cfg0.win 1).blk t).view.emb (ix3 0 0 j)) _ _ _ (by show win0_1.index t 0 * 1 + 1 * 0 = min (t.val + 1) 15; rw [index0_1]; omega) rfl (by show 0 * 512 + 1 * j.val = j.val; omega))
theorem block0_2 (j : Fin 512) : Fwd.iblk V c 2 t (ix3 0 j 0) = V c main_v1 (ix3 ⟨t.val, lt0 t⟩ j 0) :=
  congrArg (V c main_v1) (at3 (((cfg0.win 2).blk t).view.emb (ix3 0 j 0)) _ _ _ (by show win0_2.index t 0 * 1 + 1 * 0 = t.val; rw [index0_2]; omega) (by show 0 * 512 + 1 * j.val = j.val; omega) rfl)
theorem block0_3 (i k : Fin 512) : Fwd.iblk V c 3 t (ix2 i k) = V c main_v2 (ix2 (row t.val (lt0 t) i) k) :=
  congrArg (V c main_v2) (at2 (((cfg0.win 3).blk t).view.emb (ix2 i k)) _ _ (by show win0_3.index t 0 * 512 + 1 * i.val = 512 * t.val + i.val; rw [index0_3]; omega) (by show 0 * 512 + 1 * k.val = k.val; omega))
theorem block0_4 (i : Fin 512) (k : Fin 1536) : Fwd.iblk V c 4 t (ix2 i k) = V c main_v3 (ix2 i k) :=
  congrArg (V c main_v3) (at2 (((cfg0.win 4).blk t).view.emb (ix2 i k)) _ _ (by show 0 * 512 + 1 * i.val = i.val; omega) (by show 0 * 1536 + 1 * k.val = k.val; omega))

theorem emb0_5 (i : Fin 512) (k : Fin 1024) : ((cfg0.win 5).blk t).view.emb (ix2 i k) = (ix2 (row t.val (lt0 t) i) k : S8192x1024.Idx) :=
  at2 _ _ _ (by show win0_5.index t 0 * 512 + 1 * i.val = 512 * t.val + i.val; rw [index0_5]; omega) (by show 0 * 1024 + 1 * k.val = k.val; omega)
theorem emb0_6 (i : Fin 512) (k : Fin 1024) : ((cfg0.win 6).blk t).view.emb (ix2 i k) = (ix2 (row t.val (lt0 t) i) k : S8192x1024.Idx) :=
  at2 _ _ _ (by show win0_6.index t 0 * 512 + 1 * i.val = 512 * t.val + i.val; rw [index0_6]; omega) (by show 0 * 1024 + 1 * k.val = k.val; omega)
theorem emb0_7 (i : Fin 512) (k : Fin 128) : ((cfg0.win 7).blk t).view.emb (ix3 0 i k) = (ix3 ⟨t.val, lt0 t⟩ i k : S16x512x128.Idx) :=
  at3 _ _ _ _ (by show win0_7.index t 0 * 1 + 1 * 0 = t.val; rw [index0_7]; omega) (by show 0 * 512 + 1 * i.val = i.val; omega) (by show 0 * 128 + 1 * k.val = k.val; omega)

theorem inj0_5 : ∀ t t' : Fin grid0.N, win0_5.index t = win0_5.index t' → t = t' := by decide +kernel
theorem inj0_6 : ∀ t t' : Fin grid0.N, win0_6.index t = win0_6.index t' → t = t' := by decide +kernel
theorem inj0_7 : ∀ t t' : Fin grid0.N, win0_7.index t = win0_7.index t' → t = t' := by decide +kernel

/-- The queries and keys the first call leaves. -/
theorem array0_5 (i : Fin 512) (k : Fin 1024) :
    (Fwd.dat V c).arrAt 5 cfg0.N (ix2 (row t.val (lt0 t) i) k : S8192x1024.Idx) = fwdQk (Fwd.iblk V c 3 t) (Fwd.iblk V c 4 t) (ix2 i k) := by
  have h := congrFun ((Fwd.dat V c).read_blk_arrAt_eq_flushed 5
    (fun t t' _ _ hne => (cfg0.win 5).disjoint_blk fun h => hne (inj0_5 t t' h)) cfg0.N t t.isLt (flush0_5 t)) (ix2 i k)
  rw [← emb0_5]
  refine Eq.trans rfl (h.trans ?_)
  show (cfg0.win 5).cut (grid0.coords t) ((Fwd.dat V c).after 5 t) (ix2 i k) = _
  rw [Fwd.after_5]
  rfl
/-- The values the first call leaves. -/
theorem array0_6 (i : Fin 512) (k : Fin 1024) :
    (Fwd.dat V c).arrAt 6 cfg0.N (ix2 (row t.val (lt0 t) i) k : S8192x1024.Idx) = fwdVa (Fwd.iblk V c 3 t) (Fwd.iblk V c 4 t) (ix2 i k) := by
  have h := congrFun ((Fwd.dat V c).read_blk_arrAt_eq_flushed 6
    (fun t t' _ _ hne => (cfg0.win 6).disjoint_blk fun h => hne (inj0_6 t t' h)) cfg0.N t t.isLt (flush0_6 t)) (ix2 i k)
  rw [← emb0_6]
  refine Eq.trans rfl (h.trans ?_)
  show (cfg0.win 6).cut (grid0.coords t) ((Fwd.dat V c).after 6 t) (ix2 i k) = _
  rw [Fwd.after_6]
  rfl
/-- The carried sums the first call leaves: the scratch before each point. -/
theorem array0_7 (i : Fin 512) (k : Fin 128) :
    (Fwd.dat V c).arrAt 7 cfg0.N (ix3 ⟨t.val, lt0 t⟩ i k : S16x512x128.Idx) = k0_pay8 (Fwd.scr V c t.val) (ix3 0 i k) := by
  have h := congrFun ((Fwd.dat V c).read_blk_arrAt_eq_flushed 7
    (fun t t' _ _ hne => (cfg0.win 7).disjoint_blk fun h => hne (inj0_7 t t' h)) cfg0.N t t.isLt (flush0_7 t)) (ix3 0 i k)
  rw [← emb0_7]
  refine Eq.trans rfl (h.trans ?_)
  show (cfg0.win 7).cut (grid0.coords t) ((Fwd.dat V c).after 7 t) (ix3 0 i k) = _
  rw [Fwd.after_7]
  rfl

end Fwd

/-! ## The second call: block `15 - t` at point `t` -/

section Bwd

variable (t : Fin cfg1.N)

theorem lt1 : 15 - t.val < 16 := by omega

theorem index1_0 : ∀ t : Fin grid1.N, win1_0.index t 0 = 15 - t.val := by decide +kernel
theorem index1_1 : ∀ t : Fin grid1.N, win1_1.index t 0 = 15 - t.val - 1 := by decide +kernel
theorem index1_2 : ∀ t : Fin grid1.N, win1_2.index t 0 = 15 - t.val := by decide +kernel
theorem index1_3 : ∀ t : Fin grid1.N, win1_3.index t 0 = 15 - t.val := by decide +kernel
theorem index1_4 : ∀ t : Fin grid1.N, win1_4.index t 0 = 15 - t.val := by decide +kernel
theorem index1_5 : ∀ t : Fin grid1.N, win1_5.index t 0 = 15 - t.val := by decide +kernel
theorem index1_8 : ∀ t : Fin grid1.N, win1_8.index t 0 = 15 - t.val := by decide +kernel

theorem block1_0 (j : Fin 512) : Bwd.iblk V c 0 t (ix3 0 0 j) = V c main_v0 (ix3 ⟨15 - t.val, lt1 t⟩ 0 j) :=
  congrArg (V c main_v0) (at3 (((cfg1.win 0).blk t).view.emb (ix3 0 0 j)) _ _ _ (by show win1_0.index t 0 * 1 + 1 * 0 = 15 - t.val; rw [index1_0]; omega) rfl (by show 0 * 512 + 1 * j.val = j.val; omega))
theorem block1_1 (j : Fin 512) : Bwd.iblk V c 1 t (ix3 0 0 j) = V c main_v0 (ix3 ⟨15 - t.val - 1, by omega⟩ 0 j) :=
  congrArg (V c main_v0) (at3 (((cfg1.win 1).blk t).view.emb (ix3 0 0 j)) _ _ _ (by show win1_1.index t 0 * 1 + 1 * 0 = 15 - t.val - 1; rw [index1_1]; omega) rfl (by show 0 * 512 + 1 * j.val = j.val; omega))
theorem block1_2 (j : Fin 512) : Bwd.iblk V c 2 t (ix3 0 j 0) = V c main_v1 (ix3 ⟨15 - t.val, lt1 t⟩ j 0) :=
  congrArg (V c main_v1) (at3 (((cfg1.win 2).blk t).view.emb (ix3 0 j 0)) _ _ _ (by show win1_2.index t 0 * 1 + 1 * 0 = 15 - t.val; rw [index1_2]; omega) (by show 0 * 512 + 1 * j.val = j.val; omega) rfl)
theorem block1_3 (i : Fin 512) (k : Fin 1024) : Bwd.iblk V c 3 t (ix2 i k) = V c main_v4_0 (ix2 (row (15 - t.val) (lt1 t) i) k) :=
  congrArg (V c main_v4_0) (at2 (((cfg1.win 3).blk t).view.emb (ix2 i k)) _ _ (by show win1_3.index t 0 * 512 + 1 * i.val = 512 * (15 - t.val) + i.val; rw [index1_3]; omega) (by show 0 * 1024 + 1 * k.val = k.val; omega))
theorem block1_4 (i : Fin 512) (k : Fin 1024) : Bwd.iblk V c 4 t (ix2 i k) = V c main_v4_1 (ix2 (row (15 - t.val) (lt1 t) i) k) :=
  congrArg (V c main_v4_1) (at2 (((cfg1.win 4).blk t).view.emb (ix2 i k)) _ _ (by show win1_4.index t 0 * 512 + 1 * i.val = 512 * (15 - t.val) + i.val; rw [index1_4]; omega) (by show 0 * 1024 + 1 * k.val = k.val; omega))
theorem block1_5 (i : Fin 512) (k : Fin 128) : Bwd.iblk V c 5 t (ix3 0 i k) = V c main_v4_2 (ix3 ⟨15 - t.val, lt1 t⟩ i k) :=
  congrArg (V c main_v4_2) (at3 (((cfg1.win 5).blk t).view.emb (ix3 0 i k)) _ _ _ (by show win1_5.index t 0 * 1 + 1 * 0 = 15 - t.val; rw [index1_5]; omega) (by show 0 * 512 + 1 * i.val = i.val; omega) (by show 0 * 128 + 1 * k.val = k.val; omega))
theorem block1_6 (i k : Fin 512) : Bwd.iblk V c 6 t (ix2 i k) = V c main_arg2 (ix2 i k) :=
  congrArg (V c main_arg2) (at2 (((cfg1.win 6).blk t).view.emb (ix2 i k)) _ _ (by show 0 * 512 + 1 * i.val = i.val; omega) (by show 0 * 512 + 1 * k.val = k.val; omega))
theorem block1_7 (k : Fin 512) : Bwd.iblk V c 7 t (ix2 0 k) = V c main_v5 (ix2 0 k) :=
  congrArg (V c main_v5) (at2 (((cfg1.win 7).blk t).view.emb (ix2 0 k)) _ _ rfl (by show 0 * 512 + 1 * k.val = k.val; omega))

theorem emb1_8 (i k : Fin 512) : ((cfg1.win 8).blk t).view.emb (ix2 i k) = (ix2 (row (15 - t.val) (lt1 t) i) k : S8192x512.Idx) :=
  at2 _ _ _ (by show win1_8.index t 0 * 512 + 1 * i.val = 512 * (15 - t.val) + i.val; rw [index1_8]; omega) (by show 0 * 512 + 1 * k.val = k.val; omega)
theorem inj1_8 : ∀ t t' : Fin grid1.N, win1_8.index t = win1_8.index t' → t = t' := by decide +kernel

/-- The result the second call leaves. -/
theorem array1_8 (i k : Fin 512) :
    (Bwd.dat V c).arrAt 8 cfg1.N (ix2 (row (15 - t.val) (lt1 t) i) k : S8192x512.Idx)
      = bwdOut (Bwd.iblk V c 0 t) (Bwd.iblk V c 2 t) (Bwd.iblk V c 3 t) (Bwd.iblk V c 4 t) (Bwd.iblk V c 5 t) (Bwd.iblk V c 6 t) (Bwd.iblk V c 7 t)
          (Bwd.scr V c t.val) (ix2 i k) := by
  have h := congrFun ((Bwd.dat V c).read_blk_arrAt_eq_flushed 8
    (fun t t' _ _ hne => (cfg1.win 8).disjoint_blk fun h => hne (inj1_8 t t' h)) cfg1.N t t.isLt (flush1_8 t)) (ix2 i k)
  rw [← emb1_8]
  refine Eq.trans rfl (h.trans ?_)
  show (cfg1.win 8).cut (grid1.coords t) ((Bwd.dat V c).after 8 t) (ix2 i k) = _
  rw [Bwd.after_8]
  rfl

end Bwd

/-! ## The arrays the host operations make -/

section Host

variable (m : (ℓ : Loc nD τ sig) → Buf (Elt F) ℓ)

theorem v1_v0 : V1 m c main_v0 = shapeCast S16x1x512 (m ((c : Thread nD τ).loc main_arg4)) shapeCasts_S8192_S16x1x512 := by
  after_results_simp
  rfl
theorem v1_v1 : V1 m c main_v1 = shapeCast S16x512x1 (m ((c : Thread nD τ).loc main_arg4)) shapeCasts_S8192_S16x512x1 := by
  after_results_simp
  rfl
theorem v1_v2 : V1 m c main_v2 = truncf .bf16 (m ((c : Thread nD τ).loc main_arg0)) bitsLt_bf16_f32 := by
  after_results_simp
theorem v1_v3 : V1 m c main_v3 = truncf .bf16 (m ((c : Thread nD τ).loc main_arg1)) bitsLt_bf16_f32 := by
  after_results_simp
theorem before_v5 : beforeBwd m c main_v5 = shapeCast S1x512 (m ((c : Thread nD τ).loc main_arg3)) shapeCasts_S512_S1x512 := by
  unfold beforeBwd
  after_results_simp
  rw [afterFwd_of m c main_arg3 (by decide), V1_of m c main_arg3 (by decide)]
  rfl
theorem beforeBwd_of (b : Ref sig .tc) (h : b ≠ main_v5) : beforeBwd m c b = afterFwd m c b :=
  StableHlo.after_of_writes_sub hostOps1 _ hostOps1_writes (by simpa using h)

end Host

end Cert.KernelIdeal.Blocks

end
-- ==== Proof.KernelIdeal.Entries.lean ====
/- What one grid point of each call computes, over the extended reals, read entry by entry. -/
module

public import proofs.«01_k».proof.Proof.KernelIdeal.Steps
public import Idealize.ShloMosaic.Lib.Pointwise
public import Idealize.ShloMosaic.Lib.ValueIdx
public import Idealize.ShloMosaic.Lib.IdealHost

@[expose] public section

set_option maxRecDepth 16384

noncomputable section

namespace Cert.KernelIdeal.Entries

open Cert.KernelIdeal.Gen Cert.KernelIdeal.Steps Idealize.ShloMosaic

section Fwd

variable (x0 x1 : Vec Ideal S1x1x512 .i32) (x2 : Vec Ideal S1x512x1 .i32) (x3 : Vec Ideal S512x512 .bf16) (x4 : Vec Ideal S512x1536 .bf16)

theorem pay5_entry (i : Fin 512) (c : Fin 1536) :
    k0_pay5 x3 x4 (ix2 i c) = ∑ k : Fin 512, x3 (ix2 i k) * x4 (ix2 k c) := by
  unfold k0_pay5
  pointwise

theorem fwdQk_entry (i : Fin 512) (c : Fin 1024) :
    fwdQk x3 x4 (ix2 i c) = max (∑ k : Fin 512, x3 (ix2 i k) * x4 (ix2 k ⟨c.val, by omega⟩)) 0 := by
  unfold fwdQk k0_pay6
  pointwise
  rw [pay5_entry]

set_option maxHeartbeats 1000000 in
/-- A column of head `h`'s values: the products' columns, then a one, then zeros. -/
theorem fwdVa_entry (i : Fin 512) (h : Fin 8) (e : Fin 128) :
    fwdVa x3 x4 (ix2 i ⟨128 * h.val + e.val, by omega⟩)
      = if he : e.val < 64 then ∑ k : Fin 512, x3 (ix2 i k) * x4 (ix2 k ⟨1024 + (64 * h.val + e.val), by omega⟩)
        else if e.val = 64 then 1 else 0 := by
  have hb (h : ℕ) (hh : h < 8) (he : e.val < 64) (b : ℕ) (hb' : b < 1536) (hbc : b = 1024 + (64 * h + e.val)) : k0_pay5 x3 x4 (ix2 i ⟨b, hb'⟩) = ∑ k : Fin 512, x3 (ix2 i k) * x4 (ix2 k ⟨1024 + (64 * h + e.val), by omega⟩) := by
    subst hbc; exact pay5_entry x3 x4 i _
  unfold fwdVa k0_pay7
  generalize k0_pay5 x3 x4 = p at hb ⊢
  pointwise
  obtain ⟨h, hh⟩ := h
  dsimp only
  by_cases he : e.val < 64
  · refine Eq.trans ?_ (dif_pos he).symm
    interval_cases h
    all_goals
      repeat rw [dif_neg (by omega)]
      rw [dif_pos (by omega)]
      exact hb _ hh he _ _ (by omega)
  · refine Eq.trans ?_ (dif_neg he).symm
    by_cases h1 : e.val = 64
    · rw [if_pos h1]
      interval_cases h
      all_goals
        repeat rw [dif_neg (by omega)]
        rw [dif_pos (by omega)]
    · rw [if_neg h1]
      interval_cases h
      all_goals
        repeat rw [dif_neg (by omega)]
      all_goals rw [dif_pos (by omega)]

/-- The carried block as it is written: the scratch. -/
theorem pay8_entry (s : Vec Ideal S512x128 .f32) (r : Fin 512) (e : Fin 128) : k0_pay8 s (ix3 0 r e) = s (ix2 r e) := by
  unfold k0_pay8
  pointwise

theorem rows_emb (h : Fin 8) (d : Fin 64) (e : Fin 128) :
    (rows h).emb (ix2 d e) = (ix2 ⟨64 * h.val + d.val, by omega⟩ e : S512x128.Idx) := by
  funext a
  match a with
  | ⟨0, _⟩ => exact Fin.ext (by show 64 * h.val + 1 * d.val = _; rw [one_mul]; rfl)
  | ⟨1, _⟩ => exact Fin.ext (by show 0 + 1 * e.val = _; rw [one_mul, zero_add]; rfl)

/-- The comparison of two words as a condition. -/
theorem select_eq {n : ℕ} (a b : BitVec n) (x y : EReal) : Scalar.select (IntOp.cmpi .eq a b) x y = if a = b then x else y := by
  by_cases h : a = b
  · simp [Scalar.select, IntOp.cmpi, h]
  · have hb : (a == b) = false := by simpa using h
    simp [Scalar.select, IntOp.cmpi, hb, h]

/-- The scratch after a block: kept if the next block starts with this block's first window, plus the rows of the block that
    are in the next block's first window. -/
theorem fwdNext_entry (s : Vec Ideal S512x128 .f32) (h : Fin 8) (d : Fin 64) (e : Fin 128) :
    fwdNext x0 x1 x2 x3 x4 s (ix2 ⟨64 * h.val + d.val, by omega⟩ e)
      = (if x0 (ix3 0 0 0) = x1 (ix3 0 0 0) then s (ix2 ⟨64 * h.val + d.val, by omega⟩ e) else 0)
        + ∑ i : Fin 512, if x2 (ix3 0 i 0) = x1 (ix3 0 0 0) then
            fwdQk x3 x4 (ix2 i ⟨512 + (64 * h.val + d.val), by omega⟩) * fwdVa x3 x4 (ix2 i ⟨128 * h.val + e.val, by omega⟩) else 0 := by
  unfold fwdNext
  rw [← rows_emb h d e, ← stack_rows, rows_emb]
  unfold headKv head value k0_pay10 k0_pay11 k0_pay9
  pointwise
  simp only [select_eq]

end Fwd

section Bwd

variable (x0 x1 : Vec Ideal S1x1x512 .i32) (x2 : Vec Ideal S1x512x1 .i32) (x3 x4 : Vec Ideal S512x1024 .bf16)
  (x5 : Vec Ideal S1x512x128 .bf16) (x6 : Vec Ideal S512x512 .f32) (x7 : Vec Ideal S1x512 .f32) (s : Vec Ideal S512x128 .f32)

/-- Scores: queries times keys. -/
theorem scores_entry (q k : FVec Ideal S512x64 .bf16) (i j : Fin 512) :
    matmul dot_S512x64_S512x64_S512x512_1_1_0_0_n_n none q k (constant S512x512 .f32 0x00000000#32) (ix2 i j)
      = ∑ d : Fin 64, q (ix2 i d) * k (ix2 j d) := by
  pointwise

theorem mix_entry (a : FVec Ideal S512x512 .bf16) (v : FVec Ideal S512x128 .bf16) (i : Fin 512) (e : Fin 128) :
    matmul dot_S512x512_S512x128_S512x128_1_0_0_1_n_n none a v (constant S512x128 .f32 0x00000000#32) (ix2 i e)
      = ∑ j : Fin 512, a (ix2 i j) * v (ix2 j e) := by
  pointwise

theorem carry_entry {f : FTy} (q : FVec Ideal S512x64 .bf16) (v : FVec Ideal S64x128 f) (i : Fin 512) (e : Fin 128) :
    matmul dot_S512x64_S64x128_S512x128_1_0_0_1_n_n none q v (constant S512x128 .f32 0x00000000#32) (ix2 i e)
      = ∑ d : Fin 64, q (ix2 i d) * v (ix2 d e) := by
  pointwise

theorem query_entry (h : Fin 8) (i : Fin 512) (d : Fin 64) :
    head h (k1_pay7 (View.ld x3 queries)) (ix2 i d) = x3 (ix2 i ⟨64 * h.val + d.val, by omega⟩) := by
  unfold head k1_pay7
  pointwise

theorem key_entry (h : Fin 8) (j : Fin 512) (d : Fin 64) :
    shapeCast S512x64 (View.ld x3 (keyCols h)) shapeCasts_S512x64_S512x64 (ix2 j d)
      = x3 (ix2 j ⟨512 + (64 * h.val + d.val), by omega⟩) := by
  pointwise
  exact congrArg (fun c => x3 (ix2 j c)) (Fin.ext (Nat.add_assoc _ _ _))

theorem val_entry (h : Fin 8) (j : Fin 512) (e : Fin 128) :
    shapeCast S512x128 (View.ld x4 (valCols h)) shapeCasts_S512x128_S512x128 (ix2 j e)
      = x4 (ix2 j ⟨128 * h.val + e.val, by omega⟩) := by
  pointwise

theorem mask_entry (i j : Fin 512) (x : EReal) : Scalar.select (k1_pay6 x0 x2 (ix2 i j)) x 0 = if x2 (ix3 0 i 0) = x0 (ix3 0 0 j) then x else 0 := by
  unfold k1_pay6 k1_pay3 k1_pay4
  pointwise
  rw [select_eq]

theorem first_entry (h : Fin 8) (i : Fin 512) (d : Fin 64) :
    head h (k1_pay8 x0 x2 (View.ld x3 queries)) (ix2 i d)
      = if x2 (ix3 0 i 0) = x0 (ix3 0 0 0) then x3 (ix2 i ⟨64 * h.val + d.val, by omega⟩) else 0 := by
  unfold head k1_pay8 k1_pay3 k1_pay4 k1_pay7
  pointwise
  rw [select_eq]

theorem lastWord_entry : k1_pay5 x0 (ix2 0 0) = x0 (ix3 0 0 511) := by
  unfold k1_pay5 k1_pay3
  pointwise

theorem last_entry (h : Fin 8) (i : Fin 512) (d : Fin 64) :
    head h (k1_pay9 x0 x2 (View.ld x3 queries)) (ix2 i d)
      = if x2 (ix3 0 i 0) = x0 (ix3 0 0 511) then x3 (ix2 i ⟨64 * h.val + d.val, by omega⟩) else 0 := by
  unfold head k1_pay9 k1_pay4 k1_pay7
  have hw := lastWord_entry x0
  generalize k1_pay5 x0 = l at hw ⊢
  pointwise
  rw [select_eq, hw]

theorem kvRows_emb (h : Fin 8) (d : Fin 64) (e : Fin 128) :
    (kvRows h).emb (ix3 0 d e) = (ix3 0 ⟨64 * h.val + d.val, by omega⟩ e : S1x512x128.Idx) := by
  funext a
  match a with
  | ⟨0, _⟩ => rfl
  | ⟨1, _⟩ => exact Fin.ext (by show 64 * h.val + 1 * d.val = _; rw [one_mul]; rfl)
  | ⟨2, _⟩ => exact Fin.ext (by show 0 + 1 * e.val = _; rw [one_mul, zero_add]; rfl)

theorem flat_entry (y : FVec Ideal S1x64x128 .bf16) (d : Fin 64) (e : Fin 128) :
    shapeCast S64x128 y shapeCasts_S1x64x128_S64x128 (ix2 d e) = y (ix3 0 d e) := by
  pointwise

theorem carried_entry (h : Fin 8) (d : Fin 64) (e : Fin 128) :
    shapeCast S64x128 (View.ld x5 (kvRows h)) shapeCasts_S1x64x128_S64x128 (ix2 d e) = x5 (ix3 0 ⟨64 * h.val + d.val, by omega⟩ e) :=
  (flat_entry _ d e).trans (congrArg x5 (kvRows_emb h d e))

/-- One head's outputs before the division. -/
theorem headAcc_entry (h : Fin 8) (i : Fin 512) (e : Fin 128) :
    headAcc x0 x2 x3 x4 x5 s h (ix2 i e)
      = ((∑ j : Fin 512, (if x2 (ix3 0 i 0) = x0 (ix3 0 0 j) then
            (∑ d : Fin 64, x3 (ix2 i ⟨64 * h.val + d.val, by omega⟩) * x3 (ix2 j ⟨512 + (64 * h.val + d.val), by omega⟩)) else 0)
              * x4 (ix2 j ⟨128 * h.val + e.val, by omega⟩))
          + ∑ d : Fin 64, (if x2 (ix3 0 i 0) = x0 (ix3 0 0 0) then x3 (ix2 i ⟨64 * h.val + d.val, by omega⟩) else 0)
              * x5 (ix3 0 ⟨64 * h.val + d.val, by omega⟩ e))
        + ∑ d : Fin 64, (if x2 (ix3 0 i 0) = x0 (ix3 0 0 511) then x3 (ix2 i ⟨64 * h.val + d.val, by omega⟩) else 0)
              * s (ix2 ⟨64 * h.val + d.val, by omega⟩ e) := by
  unfold headAcc
  refine congrArg₂ (· + ·) (congrArg₂ (· + ·) ?_ ?_) ?_
  · refine (mix_entry _ _ i e).trans (Finset.sum_congr rfl fun j _ => congrArg₂ (· * ·) ?_ (val_entry x4 h j e))
    refine Eq.trans ?_ (mask_entry x0 x2 i j _)
    refine congrArg₂ (Scalar.select _) ((scores_entry _ _ i j).trans (Finset.sum_congr rfl fun d _ => ?_)) ?_
    · rw [query_entry, key_entry]
    · exact Ideal.ofBits_zero .f32
  · refine (carry_entry _ _ i e).trans (Finset.sum_congr rfl fun d _ => ?_)
    rw [first_entry, carried_entry]
  · refine (carry_entry _ _ i e).trans (Finset.sum_congr rfl fun d _ => ?_)
    rw [last_entry, ← rows_emb h d e]
    rfl

theorem headY_entry (h : Fin 8) (i : Fin 512) (d : Fin 64) :
    headY x0 x2 x3 x4 x5 s h (ix2 i d)
      = headAcc x0 x2 x3 x4 x5 s h (ix2 i ⟨d.val, by omega⟩)
        * Ideal.div 1 (headAcc x0 x2 x3 x4 x5 s h (ix2 i 64) + Ideal.ofBits .f32 0x358637BD#32) := by
  unfold headY
  pointwise

theorem bwdOut_entry (i o : Fin 512) :
    bwdOut x0 x2 x3 x4 x5 x6 x7 s (ix2 i o)
      = (∑ c : Fin 512, headY x0 x2 x3 x4 x5 s ⟨c.val / 64, by omega⟩ (ix2 i ⟨c.val % 64, by omega⟩) * x6 (ix2 c o)) + x7 (ix2 0 o) := by
  unfold bwdOut
  generalize headY x0 x2 x3 x4 x5 s = Y
  pointwise
  refine congrArg (· + x7 (ix2 0 o)) (Finset.sum_congr rfl fun c _ => congrArg (· * x6 (ix2 c o)) ?_)
  have hb (a : Fin 8) (n : ℕ) (hn : n < 64) (hc : 64 * a.val + n = c.val) :
      Y a (ix2 i ⟨n, hn⟩) = Y ⟨c.val / 64, by omega⟩ (ix2 i ⟨c.val % 64, by omega⟩) := by
    have ha : a = ⟨c.val / 64, by omega⟩ := Fin.ext (by show a.val = c.val / 64; omega)
    have hm : (⟨n, hn⟩ : Fin 64) = ⟨c.val % 64, by omega⟩ := Fin.ext (by show n = c.val % 64; omega)
    rw [ha, hm]
  split_ifs
  all_goals first
    | exact absurd rfl (by assumption)
    | (refine hb 0 _ _ ?_; show 64 * 0 + _ = _; omega)
    | (refine hb 1 _ _ ?_; show 64 * 1 + _ = _; omega)
    | (refine hb 2 _ _ ?_; show 64 * 2 + _ = _; omega)
    | (refine hb 3 _ _ ?_; show 64 * 3 + _ = _; omega)
    | (refine hb 4 _ _ ?_; show 64 * 4 + _ = _; omega)
    | (refine hb 5 _ _ ?_; show 64 * 5 + _ = _; omega)
    | (refine hb 6 _ _ ?_; show 64 * 6 + _ = _; omega)
    | (refine hb 7 _ _ ?_; show 64 * 7 + _ = _; omega)

theorem bwdNext_entry (h : Fin 8) (d : Fin 64) (e : Fin 128) :
    bwdNext x0 x1 x2 x3 x4 s (ix2 ⟨64 * h.val + d.val, by omega⟩ e)
      = (if x1 (ix3 0 0 511) = x0 (ix3 0 0 511) then s (ix2 ⟨64 * h.val + d.val, by omega⟩ e) else 0)
        + ∑ i : Fin 512, if x2 (ix3 0 i 0) = x1 (ix3 0 0 511) then
            x3 (ix2 i ⟨512 + (64 * h.val + d.val), by omega⟩) * x4 (ix2 i ⟨128 * h.val + e.val, by omega⟩) else 0 := by
  unfold bwdNext
  rw [← rows_emb h d e, ← stack_rows, rows_emb]
  unfold headKv head k1_pay29 k1_pay30 k1_pay28 k1_pay5 k1_pay4 k1_pay3
  pointwise
  simp only [select_eq]

end Bwd

end Cert.KernelIdeal.Entries

end
-- ==== Proof.Sums.lean ====
/- Sums over the rows that share a window, when each window's rows are consecutive: what is carried from block to block, and
   the split of one row's sum into its block, the blocks before it and the blocks after it. -/
module

public import Mathlib.Algebra.BigOperators.Fin
public import Mathlib.Algebra.BigOperators.Intervals
public import Mathlib.Data.EReal.Operations
public import Mathlib.Tactic.Ring
public import Mathlib.Tactic.Linarith

@[expose] public section

namespace Cert.Sums

variable {α : Type} [DecidableEq α] (w : ℕ → α)

/-- Each window's rows are consecutive. -/
def Consecutive : Prop := ∀ i j k : ℕ, i ≤ j → j ≤ k → k < 8192 → w i = w k → w j = w i

/-- The rows of window `u` before row `n`. -/
def before (f : ℕ → ℝ) (u : α) (n : ℕ) : ℝ := ∑ j ∈ Finset.range n, if w j = u then f j else 0
/-- The rows of window `u` from row `n` on. -/
def after (f : ℕ → ℝ) (u : α) (n : ℕ) : ℝ := ∑ j ∈ Finset.Ico n 8192, if w j = u then f j else 0
/-- The rows of window `u` in block `b`. -/
def within (f : ℕ → ℝ) (u : α) (b : ℕ) : ℝ := ∑ i : Fin 512, if w (512 * b + i.val) = u then f (512 * b + i.val) else 0
/-- All the rows of window `u`. -/
def total (f : ℕ → ℝ) (u : α) : ℝ := before w f u 8192

variable {w}

theorem before_zero (f : ℕ → ℝ) (u : α) : before w f u 0 = 0 := Finset.sum_range_zero _
theorem after_end (f : ℕ → ℝ) (u : α) : after w f u 8192 = 0 := by
  unfold after; rw [Finset.Ico_self, Finset.sum_empty]

theorem before_block (f : ℕ → ℝ) (u : α) (b : ℕ) : before w f u (512 * (b + 1)) = before w f u (512 * b) + within w f u b := by
  unfold before within
  rw [show 512 * (b + 1) = 512 * b + 512 by ring, Finset.sum_range_add]
  exact congrArg _ (Finset.sum_range _)

theorem after_block (f : ℕ → ℝ) (u : α) (b : ℕ) (hb : b < 16) : after w f u (512 * b) = within w f u b + after w f u (512 * (b + 1)) := by
  have e : before w f u (512 * b) + after w f u (512 * b) = total w f u := by
    unfold before after total before; exact Finset.sum_range_add_sum_Ico _ (by omega)
  have e' : before w f u (512 * (b + 1)) + after w f u (512 * (b + 1)) = total w f u := by
    unfold before after total before; exact Finset.sum_range_add_sum_Ico _ (by omega)
  rw [before_block] at e'
  linarith

theorem before_eq_zero (hw : Consecutive w) (f : ℕ → ℝ) (k n m : ℕ) (hn : n ≤ m) (hm : m ≤ k) (hk : k < 8192) (h : w m ≠ w k) :
    before w f (w k) n = 0 := by
  refine Finset.sum_eq_zero fun j hj => if_neg fun e => h ?_
  have hj := Finset.mem_range.mp hj
  exact (hw j m k (by omega) hm hk e).trans e

theorem after_eq_zero (hw : Consecutive w) (f : ℕ → ℝ) (k n m : ℕ) (hm : k ≤ m) (hn : m ≤ n) (h : w m ≠ w k) :
    after w f (w k) n = 0 := by
  refine Finset.sum_eq_zero fun j hj => if_neg fun e => h ?_
  have hj := Finset.mem_Ico.mp hj
  exact hw k m j hm (by omega) hj.2 e.symm

/-- The carry forward: what block `b` leaves for the next block's first window. -/
theorem forward_step (hw : Consecutive w) (f : ℕ → ℝ) (b : ℕ) (hb : b < 16) :
    before w f (w (512 * min (b + 1) 15)) (512 * (b + 1))
      = (if w (512 * b) = w (512 * min (b + 1) 15) then before w f (w (512 * b)) (512 * b) else 0) + within w f (w (512 * min (b + 1) 15)) b := by
  rw [before_block]
  split_ifs with h
  · rw [h]
  · rw [before_eq_zero hw f (512 * min (b + 1) 15) (512 * b) (512 * b) le_rfl (by omega) (by omega) h]

/-- The carry backward: what block `b` leaves for the last window of the block before it. -/
theorem backward_step (hw : Consecutive w) (f : ℕ → ℝ) (b : ℕ) (hb : b < 16) :
    after w f (w (512 * (b - 1) + 511)) (512 * b)
      = (if w (512 * (b - 1) + 511) = w (512 * b + 511) then after w f (w (512 * b + 511)) (512 * (b + 1)) else 0)
        + within w f (w (512 * (b - 1) + 511)) b := by
  rw [after_block f _ b hb, add_comm]
  split_ifs with h
  · rw [h]
  · rw [after_eq_zero hw f (512 * (b - 1) + 511) (512 * (b + 1)) (512 * b + 511) (by omega) (by omega) (Ne.symm h)]

/-- One row's window, split into its block, the blocks before and the blocks after. -/
theorem split (hw : Consecutive w) (f : ℕ → ℝ) (b i : ℕ) (hb : b < 16) (hi : i < 512) :
    within w f (w (512 * b + i)) b + (if w (512 * b + i) = w (512 * b) then before w f (w (512 * b)) (512 * b) else 0)
        + (if w (512 * b + i) = w (512 * b + 511) then after w f (w (512 * b + 511)) (512 * (b + 1)) else 0)
      = total w f (w (512 * b + i)) := by
  have e : before w f (w (512 * b + i)) (512 * (b + 1)) + after w f (w (512 * b + i)) (512 * (b + 1)) = total w f (w (512 * b + i)) := by
    unfold before after total before; exact Finset.sum_range_add_sum_Ico _ (by omega)
  rw [before_block] at e
  have e1 : (if w (512 * b + i) = w (512 * b) then before w f (w (512 * b)) (512 * b) else 0) = before w f (w (512 * b + i)) (512 * b) := by
    split_ifs with h
    · rw [h]
    · exact (before_eq_zero hw f (512 * b + i) (512 * b) (512 * b) le_rfl (by omega) (by omega) (Ne.symm h)).symm
  have e2 : (if w (512 * b + i) = w (512 * b + 511) then after w f (w (512 * b + 511)) (512 * (b + 1)) else 0)
      = after w f (w (512 * b + i)) (512 * (b + 1)) := by
    split_ifs with h
    · rw [h]
    · exact (after_eq_zero hw f (512 * b + i) (512 * (b + 1)) (512 * b + 511) (by omega) (by omega) (Ne.symm h)).symm
  rw [e1, e2, ← e]; ring

/-- One row's attention over its window, in the three parts the second call adds up. -/
theorem attention (hw : Consecutive w) (q : Fin 64 → ℝ) (k : ℕ → Fin 64 → ℝ) (a : ℕ → ℝ) (b i : ℕ) (hb : b < 16) (hi : i < 512) :
    ((∑ j : Fin 512, (if w (512 * b + i) = w (512 * b + j.val) then ∑ d : Fin 64, q d * k (512 * b + j.val) d else 0) * a (512 * b + j.val))
        + ∑ d : Fin 64, (if w (512 * b + i) = w (512 * b) then q d else 0) * before w (fun j => k j d * a j) (w (512 * b)) (512 * b))
      + ∑ d : Fin 64, (if w (512 * b + i) = w (512 * b + 511) then q d else 0)
          * after w (fun j => k j d * a j) (w (512 * b + 511)) (512 * (b + 1))
      = ∑ d : Fin 64, q d * total w (fun j => k j d * a j) (w (512 * b + i)) := by
  have e : (∑ j : Fin 512, (if w (512 * b + i) = w (512 * b + j.val) then ∑ d : Fin 64, q d * k (512 * b + j.val) d else 0) * a (512 * b + j.val))
      = ∑ d : Fin 64, q d * within w (fun j => k j d * a j) (w (512 * b + i)) b := by
    unfold within
    simp only [Finset.mul_sum]
    rw [Finset.sum_comm]
    refine Finset.sum_congr rfl fun j _ => ?_
    by_cases h : w (512 * b + i) = w (512 * b + j.val)
    · rw [if_pos h, Finset.sum_mul]
      refine Finset.sum_congr rfl fun d _ => ?_
      rw [if_pos h.symm]; ring
    · rw [if_neg h, zero_mul]
      refine (Finset.sum_eq_zero fun d _ => ?_).symm
      rw [if_neg (Ne.symm h), mul_zero]
  rw [e, ← Finset.sum_add_distrib, ← Finset.sum_add_distrib]
  refine Finset.sum_congr rfl fun d _ => ?_
  rw [← split hw _ b i hb hi]
  split_ifs <;> ring

/-- A finite sum of real numbers is the same sum in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_ite (p : Prop) [Decidable p] (x : ℝ) : ((if p then x else 0 : ℝ) : EReal) = if p then (x : EReal) else 0 := by
  split_ifs <;> rfl

theorem total_eq (f : ℕ → ℝ) (u : α) : total w f u = ∑ j : Fin 8192, if w j.val = u then f j.val else 0 := by
  unfold total before; rw [Finset.sum_range]

end Cert.Sums
-- ==== Proof.Attention.lean ====
/- The mathematics both programs compute: each head's attention of a row over the rows of its window, from the real products
   of the inputs, and the two ways of dividing by its sum of weights. -/
module

public import proofs.«01_k».proof.Proof.Sums
public import Idealize.ShloMosaic.PureOps.Ideal
public import Idealize.ShloMosaic.Lib.ValueIdx
public import Idealize.ShloMosaic.Lib.Pointwise

@[expose] public section

noncomputable section

namespace Cert.Attention

open Idealize.ShloMosaic Cert.Sums

variable (p : ℕ → ℕ → ℝ) (w : ℕ → BitVec 32)

/-- Row `r`'s query in head `h`. -/
def query (r h : ℕ) (d : Fin 64) : ℝ := max (p r (64 * h + d.val)) 0
/-- Row `r`'s key in head `h`. -/
def key (r h : ℕ) (d : Fin 64) : ℝ := max (p r (512 + (64 * h + d.val))) 0
/-- Row `r`'s value in head `h`, followed by a one and zeros. -/
def valueOne (r h e : ℕ) : ℝ := if e < 64 then p r (1024 + (64 * h + e)) else if e = 64 then 1 else 0
/-- Row `r`'s attention in head `h`, before the division; column 64 is the sum of its weights. -/
def mix (r h e : ℕ) : ℝ := ∑ d : Fin 64, query p r h d * total w (fun j => key p j h d * valueOne p j h e) (w r)

theorem query_nonneg (r h : ℕ) (d : Fin 64) : 0 ≤ query p r h d := le_max_right _ _
theorem key_nonneg (r h : ℕ) (d : Fin 64) : 0 ≤ key p r h d := le_max_right _ _

theorem valueOne_at (r h : ℕ) : valueOne p r h 64 = 1 := by unfold valueOne; rw [if_neg (by omega), if_pos rfl]

theorem weight_nonneg (r h : ℕ) : 0 ≤ mix p w r h 64 := by
  unfold mix
  refine Finset.sum_nonneg fun d _ => mul_nonneg (query_nonneg p r h d) ?_
  unfold total before
  refine Finset.sum_nonneg fun j _ => ?_
  split_ifs
  · show 0 ≤ key p j h d * valueOne p j h 64
    rw [valueOne_at, mul_one]; exact key_nonneg p j h d
  · exact le_rfl

theorem coe_max (x : ℝ) : ((max x 0 : ℝ) : EReal) = max (x : EReal) 0 := EReal.coe_strictMono.monotone.map_max

/-- The small constant added to the sum of weights. -/
abbrev small : EReal := Ideal.ofBits .f32 0x358637BD#32

theorem small_pos : 0 < small := by
  have h : small = ((8796093 / 8796093022208 : ℝ) : EReal) := by
    simp [small, Ideal.ofBits, Ideal.ieee, -EReal.coe_mul]; norm_num
  rw [h]; exact_mod_cast (by norm_num : (0 : ℝ) < 8796093 / 8796093022208)

/-- The sum of weights plus the small constant is not zero. -/
theorem weight_ne_zero (r h : ℕ) : (mix p w r h 64 : EReal) + small ≠ 0 :=

  (lt_of_lt_of_le small_pos (le_add_of_nonneg_left (EReal.coe_nonneg.mpr (weight_nonneg p w r h)))).ne'

/-- Times the reciprocal, or divided: the same. -/
theorem mul_reciprocal (x y : EReal) (h : y ≠ 0) : x * Ideal.div 1 y = Ideal.div x y := by
  unfold Ideal.div
  rw [if_neg h, if_neg h, one_mul]

/-- The inputs' products are the reals `p`, the windows are `w`, consecutive and numbered below 256. -/
structure Inputs (x : (⟨2, ![8192, 512]⟩ : Shape).Idx → EReal) (W : (⟨2, ![512, 1536]⟩ : Shape).Idx → EReal) (win : (⟨1, ![8192]⟩ : Shape).Idx → BitVec 32)
    (p : ℕ → ℕ → ℝ) (w : ℕ → BitVec 32) : Prop where
  product : ∀ (j : Fin 8192) (k : Fin 1536), ∑ i : Fin 512, x (ix2 j i) * W (ix2 i k) = (p j.val k.val : EReal)
  window : ∀ j : Fin 8192, win (ix1 j) = w j.val
  range : ∀ j : Fin 8192, 0 ≤ (w j.val).toInt ∧ (w j.val).toInt < 256
  consecutive : Consecutive w

end Cert.Attention

end
-- ==== Proof.KernelIdeal.Reals.lean ====
/- One grid point of each call on real inputs: the carries and the heads' attention, as real numbers. -/
module

public import proofs.«01_k».proof.Proof.KernelIdeal.Entries
public import proofs.«01_k».proof.Proof.Attention

@[expose] public section

set_option maxRecDepth 16384

noncomputable section

namespace Cert.KernelIdeal.Reals

open Cert.KernelIdeal.Gen Cert.KernelIdeal.Steps Cert.KernelIdeal.Entries Cert.Attention Cert.Sums Idealize.ShloMosaic

variable (p : ℕ → ℕ → ℝ) (w : ℕ → BitVec 32) (b : ℕ)

/-- Row `j`'s term of a head's sum: a key's entry times a valueOne's. -/
def term (h : ℕ) (d : Fin 64) (e : ℕ) (j : ℕ) : ℝ := key p j h d * valueOne p j h e

theorem pay4_entry (r : Fin 512) (e : Fin 128) : k0_pay4 (F := Ideal) (ix2 r e) = 0 := by
  unfold k0_pay4; pointwise
theorem pay2_entry (r : Fin 512) (e : Fin 128) : k1_pay2 (F := Ideal) (ix2 r e) = 0 := by
  unfold k1_pay2; pointwise

section Fwd

variable {p w b}
variable {x0 x1 : Vec Ideal S1x1x512 .i32} {x2 : Vec Ideal S1x512x1 .i32} {x3 : Vec Ideal S512x512 .bf16} {x4 : Vec Ideal S512x1536 .bf16}
  {s : Vec Ideal S512x128 .f32}

theorem fwdQk_real (hx : ∀ i c, ∑ k : Fin 512, x3 (ix2 i k) * x4 (ix2 k c) = (p (512 * b + i.val) c.val : EReal)) (i : Fin 512) (c : Fin 1024) :
    fwdQk x3 x4 (ix2 i c) = (max (p (512 * b + i.val) c.val) 0 : ℝ) := by
  rw [fwdQk_entry, hx, coe_max]

theorem fwdVa_real (hx : ∀ i c, ∑ k : Fin 512, x3 (ix2 i k) * x4 (ix2 k c) = (p (512 * b + i.val) c.val : EReal)) (i : Fin 512) (h : Fin 8) (e : Fin 128) :
    fwdVa x3 x4 (ix2 i ⟨128 * h.val + e.val, by omega⟩) = (valueOne p (512 * b + i.val) h.val e.val : EReal) := by
  rw [fwdVa_entry]
  unfold valueOne
  by_cases he : e.val < 64
  · rw [dif_pos he, if_pos he, hx]
  · rw [dif_neg he, if_neg he]
    split_ifs <;> simp

theorem fwdNext_real (hw : Consecutive w) (hb : b < 16) (h0 : x0 (ix3 0 0 0) = w (512 * b)) (h1 : x1 (ix3 0 0 0) = w (512 * min (b + 1) 15))
    (h2 : ∀ i : Fin 512, x2 (ix3 0 i 0) = w (512 * b + i.val))
    (hx : ∀ i c, ∑ k : Fin 512, x3 (ix2 i k) * x4 (ix2 k c) = (p (512 * b + i.val) c.val : EReal))
    (h : Fin 8) (d : Fin 64) (e : Fin 128)
    (hs : s (ix2 ⟨64 * h.val + d.val, by omega⟩ e) = (before w (term p h.val d e.val) (w (512 * b)) (512 * b) : EReal)) :
    fwdNext x0 x1 x2 x3 x4 s (ix2 ⟨64 * h.val + d.val, by omega⟩ e)
      = (before w (term p h.val d e.val) (w (512 * min (b + 1) 15)) (512 * (b + 1)) : EReal) := by
  rw [fwdNext_entry, h0, h1, hs, forward_step hw _ b hb, EReal.coe_add, coe_ite]
  refine congrArg _ ?_
  unfold within
  rw [coe_sum]
  refine Finset.sum_congr rfl fun i _ => ?_
  rw [h2, coe_ite, fwdQk_real hx, fwdVa_real hx, ← EReal.coe_mul]
  rfl

end Fwd

section Bwd

variable {p w b}
variable {x0 x1 : Vec Ideal S1x1x512 .i32} {x2 : Vec Ideal S1x512x1 .i32} {x3 x4 : Vec Ideal S512x1024 .bf16} {x5 : Vec Ideal S1x512x128 .f32}
  {x6 : Vec Ideal S512x512 .f32} {x7 : Vec Ideal S1x512 .f32} {s : Vec Ideal S512x128 .f32}

theorem bwdNext_real (hw : Consecutive w) (hb : b < 16) (h0 : x0 (ix3 0 0 511) = w (512 * b + 511)) (h1 : x1 (ix3 0 0 511) = w (512 * (b - 1) + 511))
    (h2 : ∀ i : Fin 512, x2 (ix3 0 i 0) = w (512 * b + i.val))
    (h3 : ∀ (i : Fin 512) (c : Fin 1024), x3 (ix2 i c) = (max (p (512 * b + i.val) c.val) 0 : ℝ))
    (h4 : ∀ (i : Fin 512) (h : Fin 8) (e : Fin 128), x4 (ix2 i ⟨128 * h.val + e.val, by omega⟩) = (valueOne p (512 * b + i.val) h.val e.val : EReal))
    (h : Fin 8) (d : Fin 64) (e : Fin 128)
    (hs : s (ix2 ⟨64 * h.val + d.val, by omega⟩ e) = (after w (term p h.val d e.val) (w (512 * b + 511)) (512 * (b + 1)) : EReal)) :
    bwdNext x0 x1 x2 x3 x4 s (ix2 ⟨64 * h.val + d.val, by omega⟩ e)
      = (after w (term p h.val d e.val) (w (512 * (b - 1) + 511)) (512 * b) : EReal) := by
  rw [bwdNext_entry, h0, h1, hs, backward_step hw _ b hb, EReal.coe_add, coe_ite]
  refine congrArg _ ?_
  unfold within
  rw [coe_sum]
  refine Finset.sum_congr rfl fun i _ => ?_
  rw [h2, coe_ite, h3, h4, ← EReal.coe_mul]
  rfl

theorem headAcc_real (hw : Consecutive w) (hb : b < 16) (h0 : ∀ j : Fin 512, x0 (ix3 0 0 j) = w (512 * b + j.val))
    (h2 : ∀ i : Fin 512, x2 (ix3 0 i 0) = w (512 * b + i.val))
    (h3 : ∀ (i : Fin 512) (c : Fin 1024), x3 (ix2 i c) = (max (p (512 * b + i.val) c.val) 0 : ℝ))
    (h4 : ∀ (i : Fin 512) (h : Fin 8) (e : Fin 128), x4 (ix2 i ⟨128 * h.val + e.val, by omega⟩) = (valueOne p (512 * b + i.val) h.val e.val : EReal))
    (h5 : ∀ (h : Fin 8) (d : Fin 64) (e : Fin 128), x5 (ix3 0 ⟨64 * h.val + d.val, by omega⟩ e)
      = (before w (term p h.val d e.val) (w (512 * b)) (512 * b) : EReal))
    (hs : ∀ (h : Fin 8) (d : Fin 64) (e : Fin 128), s (ix2 ⟨64 * h.val + d.val, by omega⟩ e)
      = (after w (term p h.val d e.val) (w (512 * b + 511)) (512 * (b + 1)) : EReal))
    (h : Fin 8) (i : Fin 512) (e : Fin 128) :
    headAcc x0 x2 x3 x4 x5 s h (ix2 i e) = (mix p w (512 * b + i.val) h.val e.val : EReal) := by
  rw [headAcc_entry]
  unfold mix
  rw [← attention hw (query p (512 * b + i.val) h.val) (fun j d => key p j h.val d) (fun j => valueOne p j h.val e.val) b i.val hb i.isLt]
  rw [EReal.coe_add, EReal.coe_add, coe_sum, coe_sum, coe_sum]
  refine congrArg₂ (· + ·) (congrArg₂ (· + ·) ?_ ?_) ?_
  · refine Finset.sum_congr rfl fun j _ => ?_
    rw [EReal.coe_mul, coe_ite, coe_sum, h2, h0, h4]
    have e : ∑ d : Fin 64, x3 (ix2 i ⟨64 * h.val + d.val, by omega⟩) * x3 (ix2 j ⟨512 + (64 * h.val + d.val), by omega⟩)
        = ∑ d : Fin 64, ((query p (512 * b + i.val) h.val d * key p (512 * b + j.val) h.val d : ℝ) : EReal) := by
      refine Finset.sum_congr rfl fun d _ => ?_
      rw [h3, h3, ← EReal.coe_mul]
      rfl
    rw [e]
  · refine Finset.sum_congr rfl fun d _ => ?_
    rw [EReal.coe_mul, coe_ite, h2, h0, h3, h5]
    rfl
  · refine Finset.sum_congr rfl fun d _ => ?_
    rw [EReal.coe_mul, coe_ite, h2, h0, h3, hs]
    rfl

theorem bwdOut_real (hw : Consecutive w) (hb : b < 16) (h0 : ∀ j : Fin 512, x0 (ix3 0 0 j) = w (512 * b + j.val))
    (h2 : ∀ i : Fin 512, x2 (ix3 0 i 0) = w (512 * b + i.val))
    (h3 : ∀ (i : Fin 512) (c : Fin 1024), x3 (ix2 i c) = (max (p (512 * b + i.val) c.val) 0 : ℝ))
    (h4 : ∀ (i : Fin 512) (h : Fin 8) (e : Fin 128), x4 (ix2 i ⟨128 * h.val + e.val, by omega⟩) = (valueOne p (512 * b + i.val) h.val e.val : EReal))
    (h5 : ∀ (h : Fin 8) (d : Fin 64) (e : Fin 128), x5 (ix3 0 ⟨64 * h.val + d.val, by omega⟩ e)
      = (before w (term p h.val d e.val) (w (512 * b)) (512 * b) : EReal))
    (hs : ∀ (h : Fin 8) (d : Fin 64) (e : Fin 128), s (ix2 ⟨64 * h.val + d.val, by omega⟩ e)
      = (after w (term p h.val d e.val) (w (512 * b + 511)) (512 * (b + 1)) : EReal))
    (i o : Fin 512) :
    bwdOut x0 x2 x3 x4 x5 x6 x7 s (ix2 i o)
      = (∑ c : Fin 512, Ideal.div (mix p w (512 * b + i.val) (c.val / 64) (c.val % 64) : EReal)
            ((mix p w (512 * b + i.val) (c.val / 64) 64 : EReal) + small) * x6 (ix2 c o)) + x7 (ix2 0 o) := by
  rw [bwdOut_entry]
  refine congrArg (· + x7 (ix2 0 o)) (Finset.sum_congr rfl fun c _ => congrArg (· * x6 (ix2 c o)) ?_)
  rw [headY_entry, headAcc_real hw hb h0 h2 h3 h4 h5 hs, headAcc_real hw hb h0 h2 h3 h4 h5 hs]
  exact mul_reciprocal _ _ (weight_ne_zero p w _ _)

end Bwd

end Cert.KernelIdeal.Reals

end
-- ==== Proof.KernelIdeal.Value.lean ====
/- What the kernel's program leaves in its result, entry by entry, on real products and consecutive windows. -/
module

public import proofs.«01_k».proof.Proof.KernelIdeal.Blocks
public import proofs.«01_k».proof.Proof.KernelIdeal.Reals

@[expose] public section

set_option maxRecDepth 16384

noncomputable section

namespace Cert.KernelIdeal.Value

open Cert.KernelIdeal.Gen Cert.KernelIdeal.Steps Cert.KernelIdeal.Run Cert.KernelIdeal.Blocks Cert.KernelIdeal.Reals Cert.Attention Cert.Sums
open Idealize.ShloMosaic Idealize.ShloMosaic.TcCoe Idealize.SL.Sem

variable (m : (ℓ : Loc nD τ sig) → Buf (Elt Ideal) ℓ) (c : Dev nD) (p : ℕ → ℕ → ℝ) (w : ℕ → BitVec 32)

variable {m c p w}
variable (hin : Inputs (m ((c : Thread nD τ).loc main_arg0)) (m ((c : Thread nD τ).loc main_arg1)) (m ((c : Thread nD τ).loc main_arg4)) p w)

theorem lanes (A : IVec S8192 32) (b : Fin 16) (j : Fin 512) :
    shapeCast S16x1x512 A shapeCasts_S8192_S16x1x512 (ix3 b 0 j) = A (ix1 ⟨512 * b.val + j.val, by omega⟩) := by
  simp only [Nat.mul_comm 512]; pointwise
theorem sublanes (A : IVec S8192 32) (b : Fin 16) (j : Fin 512) :
    shapeCast S16x512x1 A shapeCasts_S8192_S16x512x1 (ix3 b j 0) = A (ix1 ⟨512 * b.val + j.val, by omega⟩) := by
  simp only [Nat.mul_comm 512]; pointwise
theorem flatRow (A : FVec Ideal S512 .f32) (o : Fin 512) : shapeCast S1x512 A shapeCasts_S512_S1x512 (ix2 0 o) = A (ix1 o) := by
  pointwise

include hin

/-! ## The first call -/

theorem lane0 (b : Fin 16) (j : Fin 512) : V1 m c main_v0 (ix3 b 0 j) = w (512 * b.val + j.val) := by
  rw [v1_v0]; exact (lanes _ b j).trans (hin.window _)
theorem lane1 (b : Fin 16) (j : Fin 512) : V1 m c main_v1 (ix3 b j 0) = w (512 * b.val + j.val) := by
  rw [v1_v1]; exact (sublanes _ b j).trans (hin.window _)

theorem product0 (t : Fin cfg0.N) (A : Vec Ideal S512x512 .bf16) (B : Vec Ideal S512x1536 .bf16)
    (hA : A = Fwd.iblk (atRefs (V1 m)) c 3 t) (hB : B = Fwd.iblk (atRefs (V1 m)) c 4 t) (i : Fin 512) (k : Fin 1536) :
    ∑ j : Fin 512, A (ix2 i j) * B (ix2 j k) = (p (512 * t.val + i.val) k.val : EReal) := by
  refine Eq.trans (Finset.sum_congr rfl fun j _ => ?_) (hin.product (row t.val (lt0 t) i) k)
  rw [hA, hB, block0_3, block0_4]
  unfold atRefs
  rw [v1_v2, v1_v3]
  rfl

theorem carry0 (n : ℕ) (hn : n ≤ 16) (h : Fin 8) (d : Fin 64) (e : Fin 128) :
    Fwd.scr (atRefs (V1 m)) c n (ix2 ⟨64 * h.val + d.val, by omega⟩ e)
      = (before w (term p h.val d e.val) (w (512 * min n 15)) (512 * n) : EReal) := by
  induction n with
  | zero => rw [Nat.mul_zero, before_zero, EReal.coe_zero]; exact pay4_entry _ _
  | succ b ih =>
    have ih := ih (by omega)
    rw [Nat.min_eq_left (show b ≤ 15 by omega)] at ih
    rw [Fwd.scr_succ (atRefs (V1 m)) c ⟨b, by show b < 16; omega⟩]
    refine fwdNext_real hin.consecutive (by omega) ?_ ?_ ?_ ?_ h d e ih
    · exact (block0_0 _ _ _ _).trans (lane0 hin _ 0)
    · exact (block0_1 _ _ _ _).trans (lane0 hin _ 0)
    · exact fun i => (block0_2 _ _ _ _).trans (lane1 hin _ i)
    · exact product0 hin _ _ _ rfl rfl

/-! ## Between the calls -/

theorem qk1 (b : ℕ) (hb : b < 16) (i : Fin 512) (k : Fin 1024) :
    beforeBwd m c main_v4_0 (ix2 (row b hb i) k : S8192x1024.Idx) = ((max (p (512 * b + i.val) k.val) 0 : ℝ) : EReal) := by
  rw [beforeBwd_of c m _ (by decide), afterFwd_qk]
  exact (array0_5 (atRefs (V1 m)) c ⟨b, hb⟩ i k).trans (fwdQk_real (product0 hin ⟨b, hb⟩ _ _ rfl rfl) i k)

theorem va1 (b : ℕ) (hb : b < 16) (i : Fin 512) (h : Fin 8) (e : Fin 128) :
    beforeBwd m c main_v4_1 (ix2 (row b hb i) ⟨128 * h.val + e.val, by omega⟩ : S8192x1024.Idx) = (valueOne p (512 * b + i.val) h.val e.val : EReal) := by
  rw [beforeBwd_of c m _ (by decide), afterFwd_va]
  exact (array0_6 (atRefs (V1 m)) c ⟨b, hb⟩ i _).trans (fwdVa_real (product0 hin ⟨b, hb⟩ _ _ rfl rfl) i h e)

theorem kv1 (b : ℕ) (hb : b < 16) (h : Fin 8) (d : Fin 64) (e : Fin 128) :
    beforeBwd m c main_v4_2 (ix3 ⟨b, hb⟩ ⟨64 * h.val + d.val, by omega⟩ e : S16x512x128.Idx)
      = (before w (term p h.val d e.val) (w (512 * b)) (512 * b) : EReal) := by
  rw [beforeBwd_of c m _ (by decide), afterFwd_kv]
  refine (array0_7 (atRefs (V1 m)) c ⟨b, hb⟩ _ e).trans ((Entries.pay8_entry _ _ _).trans ((carry0 hin b (by omega) h d e).trans ?_))
  rw [Nat.min_eq_left (show b ≤ 15 by omega)]

theorem lane2 (b : Fin 16) (j : Fin 512) : beforeBwd m c main_v0 (ix3 b 0 j) = w (512 * b.val + j.val) := by
  rw [beforeBwd_of c m _ (by decide), afterFwd_of m c main_v0 (by decide)]; exact lane0 hin b j
theorem lane3 (b : Fin 16) (j : Fin 512) : beforeBwd m c main_v1 (ix3 b j 0) = w (512 * b.val + j.val) := by
  rw [beforeBwd_of c m _ (by decide), afterFwd_of m c main_v1 (by decide)]; exact lane1 hin b j

/-! ## The second call -/

theorem carry1 (n : ℕ) (hn : n ≤ 15) (h : Fin 8) (d : Fin 64) (e : Fin 128) :
    Bwd.scr (atRefs (beforeBwd m)) c n (ix2 ⟨64 * h.val + d.val, by omega⟩ e)
      = (after w (term p h.val d e.val) (w (512 * (15 - n) + 511)) (512 * (15 - n + 1)) : EReal) := by
  induction n with
  | zero =>
    rw [show 512 * (15 - 0 + 1) = 8192 from rfl, after_end, EReal.coe_zero]; exact pay2_entry _ _
  | succ n ih =>
    have ih := ih (by omega)
    rw [Bwd.scr_succ (atRefs (beforeBwd m)) c ⟨n, by show n < 16; omega⟩, show 15 - (n + 1) = 15 - n - 1 from rfl, show 15 - n - 1 + 1 = 15 - n by omega]
    refine bwdNext_real hin.consecutive (by omega) ?_ ?_ ?_ ?_ ?_ h d e ih
    · exact (block1_0 _ _ _ _).trans (lane2 hin _ 511)
    · exact (block1_1 _ _ _ _).trans (lane2 hin _ 511)
    · exact fun i => (block1_2 _ _ _ _).trans (lane3 hin _ i)
    · exact fun i k => (block1_3 _ _ _ _ _).trans (qk1 hin _ _ i k)
    · exact fun i h e => (block1_4 _ _ _ _ _).trans (va1 hin _ _ i h e)

/-- The result's entry: the row's attention in every head, divided by its weights, times the output matrix, plus the bias. -/
theorem result_entry (r : Fin 8192) (o : Fin 512) :
    (result m c : FVec Ideal S8192x512 .f32) (ix2 r o)
      = (∑ k : Fin 512, Ideal.div (mix p w r.val (k.val / 64) (k.val % 64) : EReal) ((mix p w r.val (k.val / 64) 64 : EReal) + small)
            * (m ((c : Thread nD τ).loc main_arg2) : FVec Ideal S512x512 .f32) (ix2 k o))
        + (m ((c : Thread nD τ).loc main_arg3) : FVec Ideal S512 .f32) (ix1 o) := by
  obtain ⟨t, i, rfl⟩ : ∃ (t : Fin cfg1.N) (i : Fin 512), r = row (15 - t.val) (lt1 t) i :=
    ⟨⟨15 - r.val / 512, by show _ < 16; omega⟩, ⟨r.val % 512, by omega⟩, Fin.ext (by show r.val = 512 * (15 - (15 - r.val / 512)) + r.val % 512; omega)⟩
  refine (array1_8 (atRefs (beforeBwd m)) c t i o).trans ((bwdOut_real (p := p) (w := w) (b := 15 - t.val) hin.consecutive (lt1 t) ?_ ?_ ?_ ?_ ?_ ?_ i o).trans ?_)
  · exact fun j => (block1_0 _ _ _ _).trans (lane2 hin _ j)
  · exact fun i => (block1_2 _ _ _ _).trans (lane3 hin _ i)
  · exact fun i k => (block1_3 _ _ _ _ _).trans (qk1 hin _ _ i k)
  · exact fun i h e => (block1_4 _ _ _ _ _).trans (va1 hin _ _ i h e)
  · exact fun h d e => (block1_5 _ _ _ _ _).trans (kv1 hin _ _ h d e)
  · exact fun h d e => carry1 hin t.val (by have : t.val < 16 := t.isLt; omega) h d e
  · refine congrArg₂ (· + ·) (Finset.sum_congr rfl fun k _ => congrArg _ ?_) ?_
    · refine (block1_6 _ _ _ _ _).trans ?_
      show beforeBwd m c main_arg2 (ix2 k o) = _
      rw [beforeBwd_of c m _ (by decide), afterFwd_of m c main_arg2 (by decide)]
      rfl
    · refine (block1_7 _ _ _ _).trans ?_
      show beforeBwd m c main_v5 (ix2 0 o) = _
      rw [before_v5]
      exact flatRow _ o

end Cert.KernelIdeal.Value

end
-- ==== Proof.ReferenceIdeal.Segment.lean ====
/- Rows added up by window and read back at each row's window: at a row, the sum over the rows of its window. -/
module

public import proofs.«01_k».proof.Proof.Gen.ReferenceIdeal
public import Idealize.ShloMosaic.Lib.ValueIdx
public import Idealize.ShloMosaic.Lib.Routing.OpsPair
public import Idealize.ShloMosaic.Lib.Pointwise

@[expose] public section

set_option maxRecDepth 16384

noncomputable section

namespace Cert.ReferenceIdeal.Segment

open Idealize.ShloMosaic Idealize.ShloMosaic.Routing

variable {B : ℕ}

/-- The tables of windows, the rows' windows, and the rows. -/
abbrev Tables (B : ℕ) : Shape := ⟨3, ![256, B, 64]⟩
abbrev Windows : Shape := ⟨2, ![8192, 1]⟩
abbrev Rows (B : ℕ) : Shape := ⟨3, ![8192, B, 64]⟩

/-- Whole tables read at each row's window. -/
abbrev reads (wf : GatherDims.WF (Tables B) Windows (Rows B) [1, 2] [0] [] [0] [] 1 ![1, B, 64]) : GatherDims (Tables B) Windows (Rows B) where
  offsetDims := [1, 2]
  collapsedSliceDims := [0]
  operandBatchingDims := []
  startIndicesBatchingDims := []
  startIndexMap := [0]
  indexVectorDim := 1
  sliceSizes := ![1, B, 64]
  wf := wf

/-- Whole rows added at each row's window. -/
abbrev adds (wf : ScatterDims.WF (Tables B) Windows (Rows B) [1, 2] [0] [0] 1) : ScatterDims (Tables B) Windows (Rows B) where
  updateWindowDims := [1, 2]
  insertedWindowDims := [0]
  scatterDimsToOperandDims := [0]
  indexVectorDim := 1
  wf := wf

theorem adds_start (wf) (idx : IVec Windows 32) (j : Fin 8192) (h : Fin B) (e : Fin 64) (a : Fin 3) :
    (adds (B := B) wf).start (ix3 j h e) idx a = if a = 0 then (idx (ix2 j 0)).toInt else 0 := by
  have hs (c) : (adds (B := B) wf).siIdx (ix3 j h e) c = ix2 j 0 := by
    funext b
    match b with
    | ⟨0, _⟩ => rfl
    | ⟨1, _⟩ => exact Subsingleton.elim (α := Fin 1) _ _
  unfold ScatterDims.start
  fin_cases a
  · exact (dif_pos (List.mem_singleton.mpr rfl)).trans (congrArg (fun x => (idx x).toInt) (hs _))
  · rfl
  · rfl

theorem adds_window (wf) (j : Fin 8192) (h : Fin B) (e : Fin 64) (a : Fin 3) :
    (adds (B := B) wf).window (ix3 j h e) a = if a = 0 then 0 else if a = 1 then h.val else e.val := by
  fin_cases a <;> rfl

theorem reads_index (wf) (idx : IVec Windows 32) (r : Fin 8192) (h : Fin B) (e : Fin 64) (n : Fin 256) (hn : (idx (ix2 r 0)).toInt = (n.val : ℤ)) :
    (reads (B := B) wf).operandIdx (ix3 r h e) idx = ix3 n h e := by
  have hs (c) : (reads (B := B) wf).siIdx (ix3 r h e) c = ix2 r 0 := by
    funext b
    match b with
    | ⟨0, _⟩ => rfl
    | ⟨1, _⟩ => exact Subsingleton.elim (α := Fin 1) _ _
  have h0 : (reads (B := B) wf).start (ix3 r h e) idx 0 = n.val := by
    unfold GatherDims.start
    rw [dif_pos (List.mem_singleton.mpr rfl), hs, hn]
    show min n.val 255 = n.val
    omega
  have e1 (a : Fin 3) : ((reads (B := B) wf).operandIdx (ix3 r h e) idx a).val = ((ix3 n h e : (Tables B).Idx) a).val := by
    fin_cases a
    · exact congrArg (fun k => k + 0 + 0) h0
    · exact (Nat.zero_add _).trans rfl
    · exact (Nat.zero_add _).trans rfl
  funext a
  exact Fin.ext (e1 a)

/-- Rows added up by window from zero and read back at row `r`: the sum over the rows of its window. -/
theorem segment (wfS) (wfG) (z : (Tables B).Idx → EReal) (hz : ∀ i, z i = 0) (idx idx' : IVec Windows 32) (win : Fin 8192 → BitVec 32)
    (hwin : ∀ j, 0 ≤ (win j).toInt ∧ (win j).toInt < 256) (hidx : ∀ j, idx (ix2 j 0) = win j) (hidx' : ∀ j, idx' (ix2 j 0) = win j)
    (u : (Rows B).Idx → EReal) (r : Fin 8192) (h : Fin B) (e : Fin 64) :
    Host.gather (reads (B := B) wfG) (Host.scatterAdd (F := Ideal) (φ := .f32) (adds (B := B) wfS) z idx u) idx' (ix3 r h e)
      = ∑ j : Fin 8192, if win j = win r then u (ix3 j h e) else 0 := by
  obtain ⟨n, hn⟩ : ∃ n : Fin 256, (win r).toInt = (n.val : ℤ) := ⟨⟨(win r).toInt.toNat, by have := hwin r; omega⟩, by have := hwin r; simp; omega⟩
  unfold Host.gather
  rw [reads_index wfG idx' r h e n (by rw [hidx']; exact hn)]
  show z _ + ∑ j ∈ Finset.univ.filter (fun j => (adds (B := B) wfS).resultIdx? j idx = some (ix3 n h e)), u j = _
  rw [hz, zero_add, ← Finset.sum_filter]
  have lands (j : Fin 8192) (h' : Fin B) (e' : Fin 64) :
      (adds (B := B) wfS).resultIdx? (ix3 j h' e') idx = some (ix3 n h e) ↔ win j = win r ∧ h' = h ∧ e' = e := by
    rw [resultIdx?_eq_some]
    simp only [adds_start, adds_window, hidx]
    constructor
    · intro q
      have q0 : (win j).toInt + ((0 : ℕ) : ℤ) = ((n.val : ℕ) : ℤ) := q 0
      have q1 : (0 : ℤ) + ((h'.val : ℕ) : ℤ) = ((h.val : ℕ) : ℤ) := q 1
      have q2 : (0 : ℤ) + ((e'.val : ℕ) : ℤ) = ((e.val : ℕ) : ℤ) := q 2
      exact ⟨BitVec.eq_of_toInt_eq (by omega), Fin.ext (by omega), Fin.ext (by omega)⟩
    · rintro ⟨q, rfl, rfl⟩ a
      fin_cases a
      · show (win j).toInt + ((0 : ℕ) : ℤ) = ((n.val : ℕ) : ℤ)
        rw [q, hn]; omega
      · exact zero_add _
      · exact zero_add _
  refine Finset.sum_nbij' (fun j => j 0) (fun j => ix3 j h e) ?_ ?_ ?_ ?_ ?_
  · intro j hj
    have hj := (Finset.mem_filter.mp hj).2
    rw [eq_ix3 j] at hj
    exact Finset.mem_filter.mpr ⟨Finset.mem_univ _, ((lands _ _ _).1 hj).1⟩
  · intro j hj
    exact Finset.mem_filter.mpr ⟨Finset.mem_univ _, (lands _ _ _).2 ⟨(Finset.mem_filter.mp hj).2, rfl, rfl⟩⟩
  · intro j hj
    have hj := (Finset.mem_filter.mp hj).2
    rw [eq_ix3 j] at hj
    obtain ⟨-, h1, h2⟩ := (lands _ _ _).1 hj
    rw [← h1, ← h2]
    exact (eq_ix3 j).symm
  · intro j _; rfl
  · intro j hj
    have hj := (Finset.mem_filter.mp hj).2
    rw [eq_ix3 j] at hj
    obtain ⟨-, h1, h2⟩ := (lands _ _ _).1 hj
    rw [← h1, ← h2]
    exact congrArg u (eq_ix3 j)

end Cert.ReferenceIdeal.Segment

end
-- ==== Proof.ReferenceIdeal.Entries.lean ====
/- The reference's intermediate values over the extended reals, entry by entry. -/
module

public import proofs.«01_k».proof.Proof.Gen.ReferenceIdeal.Run
public import proofs.«01_k».proof.Proof.ReferenceIdeal.Segment
public import proofs.«01_k».proof.Proof.Attention
public import Idealize.ShloMosaic.Lib.Tactic.CleanTypes
public import Idealize.ShloMosaic.Lib.IdealHost

@[expose] public section

set_option maxRecDepth 16384

noncomputable section

namespace Cert.ReferenceIdeal.Entries

open Cert.ReferenceIdeal Cert.ReferenceIdeal.Gen Cert.ReferenceIdeal.Value Cert.ReferenceIdeal.Segment
open Idealize.ShloMosaic Idealize.ShloMosaic.TcCoe Idealize.SL.Sem Idealize.ShloMosaic.StableHlo

/-- Head `h` of a three-axis array, as a matrix. -/
theorem head_entry (x : FVec Ideal S8192x8x64 .f32) (h : ℕ) (hh : h < 8) (hs : S8192x8x64.Slices ![0, h, 0] S8192x1x64) (r : Fin 8192) (d : Fin 64) :
    shapeCast S8192x64 (extractStridedSlice S8192x1x64 ![0, h, 0] x hs) shapeCasts_S8192x1x64_S8192x64 (ix2 r d) = x (ix3 r ⟨h, hh⟩ d) := by
  pointwise

/-- The rows' windows, as a column. -/
theorem column_entry (A : IVec S8192 32) (j : Fin 8192) : broadcastInDim S8192x1 ![0] bcast_S8192_S8192x1_0 A (ix2 j 0) = A (ix1 j) := by
  pointwise

/-- The windows as the reference reads tables at them: a negative one counted from the end. -/
def wrapped (A : IVec S8192 32) : IVec S8192 32 :=
  select (cmpi .slt A (broadcastInDim S8192 ![] bcast_S_S8192 (constantI S_ 32 0#32)))
    (addi A (broadcastInDim S8192 ![] bcast_S_S8192 (constantI S_ 32 256#32))) A

theorem wrapped_entry (A : IVec S8192 32) (j : Fin 8192) (h : 0 ≤ (A (ix1 j)).toInt) : wrapped A (ix1 j) = A (ix1 j) := by
  unfold wrapped
  pointwise
  have e : (IntOp.cmpi .slt (A (ix1 j)) 0#32) = 0#1 := by
    have hn : ¬ (A (ix1 j)).toInt < 0 := by omega
    simp [IntOp.cmpi, BitVec.slt, hn]
  rw [e]
  rfl

/-- One head's numerator. -/
def part (h : ℕ) (hs : S8192x8x64.Slices ![0, h, 0] S8192x1x64) (q k v : FVec Ideal S8192x8x64 .f32) (A : IVec S8192 32) : FVec Ideal S8192x1x64 .f32 :=
  broadcastInDim S8192x1x64 ![0, 2] bcast_S8192x64_S8192x1x64_0_2
    (Host.dotGeneral dot_S8192x64_S8192x64x64_S8192x64_1_1_n_2_0_0 none
      (shapeCast S8192x64 (extractStridedSlice S8192x1x64 ![0, h, 0] q hs) shapeCasts_S8192x1x64_S8192x64)
      (Host.gather gather_S256x64x64_S8192x1_S8192x64x64_12_0_n_n_0_1_16464
        (Host.scatterAdd scatter_S256x64x64_S8192x1_S8192x64x64_12_0_0_1
          (broadcastInDim S256x64x64 ![] bcast_S_S256x64x64 (constant S_ .f32 0x00000000#32))
          (broadcastInDim S8192x1 ![0] bcast_S8192_S8192x1_0 A)
          (mulf
            (broadcastInDim S8192x64x64 ![0, 1, 2] bcast_S8192x64x1_S8192x64x64_0_1_2
              (broadcastInDim S8192x64x1 ![0, 1] bcast_S8192x64_S8192x64x1_0_1
                (shapeCast S8192x64 (extractStridedSlice S8192x1x64 ![0, h, 0] k hs) shapeCasts_S8192x1x64_S8192x64)))
            (broadcastInDim S8192x64x64 ![0, 1, 2] bcast_S8192x1x64_S8192x64x64_0_1_2
              (broadcastInDim S8192x1x64 ![0, 2] bcast_S8192x64_S8192x1x64_0_2
                (shapeCast S8192x64 (extractStridedSlice S8192x1x64 ![0, h, 0] v hs) shapeCasts_S8192x1x64_S8192x64)))))
        (broadcastInDim S8192x1 ![0] bcast_S8192_S8192x1_0 (wrapped A))))

set_option maxRecDepth 65536 in
theorem stacked (V0 : Valuation τ sig (Elt Ideal)) :
    res_main_v206 V0 = fn_main_v206
      (part 0 slices_S8192x8x64_S8192x1x64_0_0_0 (res_main_v3 V0) (res_main_v6 V0) (res_main_v8 V0) (V0 (Proc.devRef .tc main_arg4)))
      (part 1 slices_S8192x8x64_S8192x1x64_0_1_0 (res_main_v3 V0) (res_main_v6 V0) (res_main_v8 V0) (V0 (Proc.devRef .tc main_arg4)))
      (part 2 slices_S8192x8x64_S8192x1x64_0_2_0 (res_main_v3 V0) (res_main_v6 V0) (res_main_v8 V0) (V0 (Proc.devRef .tc main_arg4)))
      (part 3 slices_S8192x8x64_S8192x1x64_0_3_0 (res_main_v3 V0) (res_main_v6 V0) (res_main_v8 V0) (V0 (Proc.devRef .tc main_arg4)))
      (part 4 slices_S8192x8x64_S8192x1x64_0_4_0 (res_main_v3 V0) (res_main_v6 V0) (res_main_v8 V0) (V0 (Proc.devRef .tc main_arg4)))
      (part 5 slices_S8192x8x64_S8192x1x64_0_5_0 (res_main_v3 V0) (res_main_v6 V0) (res_main_v8 V0) (V0 (Proc.devRef .tc main_arg4)))
      (part 6 slices_S8192x8x64_S8192x1x64_0_6_0 (res_main_v3 V0) (res_main_v6 V0) (res_main_v8 V0) (V0 (Proc.devRef .tc main_arg4)))
      (part 7 slices_S8192x8x64_S8192x1x64_0_7_0 (res_main_v3 V0) (res_main_v6 V0) (res_main_v8 V0) (V0 (Proc.devRef .tc main_arg4))) := by
  unfold res_main_v206 fn_main_v206 part wrapped
  rfl

theorem stack_entry (u0 u1 u2 u3 u4 u5 u6 u7 : FVec Ideal S8192x1x64 .f32) (r : Fin 8192) (h : Fin 8) (e : Fin 64) :
    (fn_main_v206 (F := Ideal) u0 u1 u2 u3 u4 u5 u6 u7 : FVec Ideal S8192x8x64 .f32) (ix3 r h e) = (![u0, u1, u2, u3, u4, u5, u6, u7] h) (ix3 r 0 e) := by
  unfold fn_main_v206
  clean_types
  pointwise
  obtain ⟨h, hh⟩ := h
  interval_cases h
  all_goals rfl

theorem q_entry (V0 : Valuation τ sig (Elt Ideal)) (P : FVec Ideal S8192x1536 .f32) (hP : res_main_v0 V0 = P) (r : Fin 8192) (h : Fin 8) (d : Fin 64) :
    (res_main_v3 V0 : FVec Ideal S8192x8x64 .f32) (ix3 r h d) = max (P (ix2 r ⟨64 * h.val + d.val, by omega⟩)) 0 := by
  unfold res_main_v3
  rw [hP]
  clean_types
  simp only [Nat.mul_comm 64]
  pointwise
theorem k_entry (V0 : Valuation τ sig (Elt Ideal)) (P : FVec Ideal S8192x1536 .f32) (hP : res_main_v0 V0 = P) (r : Fin 8192) (h : Fin 8) (d : Fin 64) :
    (res_main_v6 V0 : FVec Ideal S8192x8x64 .f32) (ix3 r h d) = max (P (ix2 r ⟨512 + (64 * h.val + d.val), by omega⟩)) 0 := by
  unfold res_main_v6
  rw [hP]
  clean_types
  simp only [Nat.mul_comm 64]
  pointwise
theorem v_entry (V0 : Valuation τ sig (Elt Ideal)) (P : FVec Ideal S8192x1536 .f32) (hP : res_main_v0 V0 = P) (r : Fin 8192) (h : Fin 8) (d : Fin 64) :
    (res_main_v8 V0 : FVec Ideal S8192x8x64 .f32) (ix3 r h d) = P (ix2 r ⟨1024 + (64 * h.val + d.val), by omega⟩) := by
  unfold res_main_v8
  rw [hP]
  clean_types
  simp only [Nat.mul_comm 64]
  pointwise

theorem product_entry (V0 : Valuation τ sig (Elt Ideal)) (x : FVec Ideal S8192x512 .f32) (W : FVec Ideal S512x1536 .f32)
    (hx : V0 (Proc.devRef .tc main_arg0) = x) (hW : V0 (Proc.devRef .tc main_arg1) = W) (r : Fin 8192) (k : Fin 1536) :
    (res_main_v0 V0 : FVec Ideal S8192x1536 .f32) (ix2 r k) = ∑ i : Fin 512, x (ix2 r i) * W (ix2 i k) := by
  unfold res_main_v0
  rw [hx, hW]
  clean_types
  pointwise

theorem denominator_entry (G Q : FVec Ideal S8192x8x64 .f32) (Y : FVec Ideal S8192x8x64 .f32) (r : Fin 8192) (h : Fin 8) (e : Fin 64) :
    Host.divf Y (broadcastInDim S8192x8x64 ![0, 1, 2] bcast_S8192x8x1_S8192x8x64_0_1_2 (addf (broadcastInDim S8192x8x1 ![0, 1] bcast_S8192x8_S8192x8x1_0_1 (Host.reduceAdd (mulf G Q) (constant S_ .f32 0x00000000#32) reducesTo_S8192x8x64_S8192x8_d2 h_S_)) (broadcastInDim S8192x8x1 ![] bcast_S_S8192x8x1 (constant S_ .f32 0x358637BD#32)))) (ix3 r h e)
      = Ideal.div (Y (ix3 r h e)) ((∑ d : Fin 64, G (ix3 r h d) * Q (ix3 r h d)) + Ideal.ofBits .f32 0x358637BD#32) := by
  pointwise

theorem last_entry (Y : FVec Ideal S8192x8x64 .f32) (M : FVec Ideal S512x512 .f32) (b : FVec Ideal S512 .f32) (r : Fin 8192) (o : Fin 512) :
    addf (Host.dotGeneral dot_S8192x512_S512x512_S8192x512_1_0_0_1_n_n none (shapeCast _ Y shapeCasts_S8192x8x64_S8192x512) M) (broadcastInDim S8192x512 ![0, 1] bcast_S1x512_S8192x512_0_1 (broadcastInDim S1x512 ![1] bcast_S512_S1x512_1 b)) (ix2 r o)
      = (∑ c : Fin 512, Y (ix3 r ⟨c.val / 64, by omega⟩ ⟨c.val % 64, by omega⟩) * M (ix2 c o)) + b (ix1 o) := by
  pointwise

theorem dot_entry (q : FVec Ideal S8192x64 .f32) (s : FVec Ideal S8192x64x64 .f32) (r : Fin 8192) (e : Fin 64) :
    Host.dotGeneral dot_S8192x64_S8192x64x64_S8192x64_1_1_n_2_0_0 none q s (ix2 r e) = ∑ d : Fin 64, q (ix2 r d) * s (ix3 r d e) := by
  pointwise

theorem outer_entry (k v : FVec Ideal S8192x64 .f32) (j : Fin 8192) (d e : Fin 64) :
    mulf (broadcastInDim S8192x64x64 ![0, 1, 2] bcast_S8192x64x1_S8192x64x64_0_1_2 (broadcastInDim S8192x64x1 ![0, 1] bcast_S8192x64_S8192x64x1_0_1 k))
        (broadcastInDim S8192x64x64 ![0, 1, 2] bcast_S8192x1x64_S8192x64x64_0_1_2 (broadcastInDim S8192x1x64 ![0, 2] bcast_S8192x64_S8192x1x64_0_2 v)) (ix3 j d e)
      = k (ix2 j d) * v (ix2 j e) := by
  pointwise

theorem added_entry (x : FVec Ideal S8192x64 .f32) (r : Fin 8192) (e : Fin 64) :
    broadcastInDim S8192x1x64 ![0, 2] bcast_S8192x64_S8192x1x64_0_2 x (ix3 r 0 e) = x (ix2 r e) := by
  pointwise

/-- Rows read off tables added up by window: the sum over a row's window, for the heads' outer products. -/
theorem segment_outer (u : FVec Ideal S8192x64x64 .f32) (A : IVec S8192 32) (hA : ∀ j : Fin 8192, 0 ≤ (A (ix1 j)).toInt ∧ (A (ix1 j)).toInt < 256)
    (r : Fin 8192) (d e : Fin 64) :
    Host.gather gather_S256x64x64_S8192x1_S8192x64x64_12_0_n_n_0_1_16464
        (Host.scatterAdd scatter_S256x64x64_S8192x1_S8192x64x64_12_0_0_1 (broadcastInDim S256x64x64 ![] bcast_S_S256x64x64 (constant S_ .f32 0x00000000#32))
          (broadcastInDim S8192x1 ![0] bcast_S8192_S8192x1_0 A) u)
        (broadcastInDim S8192x1 ![0] bcast_S8192_S8192x1_0 (wrapped A)) (ix3 r d e)
      = ∑ j : Fin 8192, if A (ix1 j) = A (ix1 r) then u (ix3 j d e) else 0 :=
  Segment.segment scatter_S256x64x64_S8192x1_S8192x64x64_12_0_0_1.wf gather_S256x64x64_S8192x1_S8192x64x64_12_0_n_n_0_1_16464.wf _ (fun _ => show Ideal.ofBits .f32 0x00000000#32 = 0 from Ideal.ofBits_zero _) _ _ (fun j => A (ix1 j)) hA (column_entry A)
    (fun j => (column_entry _ j).trans (wrapped_entry A j (hA j).1)) u r d e

/-- The same, for the heads' keys. -/
theorem segment_keys (u : FVec Ideal S8192x8x64 .f32) (A : IVec S8192 32) (hA : ∀ j : Fin 8192, 0 ≤ (A (ix1 j)).toInt ∧ (A (ix1 j)).toInt < 256)
    (r : Fin 8192) (h : Fin 8) (d : Fin 64) :
    Host.gather gather_S256x8x64_S8192x1_S8192x8x64_12_0_n_n_0_1_1864
        (Host.scatterAdd scatter_S256x8x64_S8192x1_S8192x8x64_12_0_0_1 (broadcastInDim S256x8x64 ![] bcast_S_S256x8x64 (constant S_ .f32 0x00000000#32))
          (broadcastInDim S8192x1 ![0] bcast_S8192_S8192x1_0 A) u)
        (broadcastInDim S8192x1 ![0] bcast_S8192_S8192x1_0 (wrapped A)) (ix3 r h d)
      = ∑ j : Fin 8192, if A (ix1 j) = A (ix1 r) then u (ix3 j h d) else 0 :=
  Segment.segment scatter_S256x8x64_S8192x1_S8192x8x64_12_0_0_1.wf gather_S256x8x64_S8192x1_S8192x8x64_12_0_n_n_0_1_1864.wf _ (fun _ => show Ideal.ofBits .f32 0x00000000#32 = 0 from Ideal.ofBits_zero _) _ _ (fun j => A (ix1 j)) hA (column_entry A)
    (fun j => (column_entry _ j).trans (wrapped_entry A j (hA j).1)) u r h d

theorem part_entry (h : ℕ) (hh : h < 8) (hs : S8192x8x64.Slices ![0, h, 0] S8192x1x64) (q k v : FVec Ideal S8192x8x64 .f32) (A : IVec S8192 32)
    (hA : ∀ j : Fin 8192, 0 ≤ (A (ix1 j)).toInt ∧ (A (ix1 j)).toInt < 256) (r : Fin 8192) (e : Fin 64) :
    part h hs q k v A (ix3 r 0 e)
      = ∑ d : Fin 64, q (ix3 r ⟨h, hh⟩ d) * ∑ j : Fin 8192, if A (ix1 j) = A (ix1 r) then k (ix3 j ⟨h, hh⟩ d) * v (ix3 j ⟨h, hh⟩ e) else 0 := by
  unfold part
  rw [added_entry, dot_entry]
  refine Finset.sum_congr rfl fun d _ => ?_
  rw [head_entry q h hh, segment_outer _ A hA]
  refine congrArg _ (Finset.sum_congr rfl fun j _ => ?_)
  rw [outer_entry, head_entry k h hh, head_entry v h hh]

/-- Every head's numerator. -/
theorem numerator_entry (V0 : Valuation τ sig (Elt Ideal)) (q k v : FVec Ideal S8192x8x64 .f32) (A : IVec S8192 32)
    (hq : res_main_v3 V0 = q) (hk : res_main_v6 V0 = k) (hv : res_main_v8 V0 = v) (hw : V0 (Proc.devRef .tc main_arg4) = A)
    (hA : ∀ j : Fin 8192, 0 ≤ (A (ix1 j)).toInt ∧ (A (ix1 j)).toInt < 256) (r : Fin 8192) (h : Fin 8) (e : Fin 64) :
    (res_main_v206 V0 : FVec Ideal S8192x8x64 .f32) (ix3 r h e)
      = ∑ d : Fin 64, q (ix3 r h d) * ∑ j : Fin 8192, if A (ix1 j) = A (ix1 r) then k (ix3 j h d) * v (ix3 j h e) else 0 := by
  rw [stacked, hq, hk, hv, hw]
  refine (stack_entry _ _ _ _ _ _ _ _ r h e).trans ?_
  obtain ⟨h, hh⟩ := h
  interval_cases h <;> exact part_entry _ _ _ q k v A hA r e

end Cert.ReferenceIdeal.Entries

end
-- ==== Proof.ReferenceIdeal.Result.lean ====
/- What the reference's program leaves in its result, entry by entry, on real products and windows in range. -/
module

public import proofs.«01_k».proof.Proof.ReferenceIdeal.Entries

@[expose] public section

set_option maxRecDepth 16384

noncomputable section

namespace Cert.ReferenceIdeal.Result

open Cert.ReferenceIdeal Cert.ReferenceIdeal.Gen Cert.ReferenceIdeal.Value Cert.ReferenceIdeal.Entries Cert.Attention Cert.Sums
open Idealize.ShloMosaic Idealize.ShloMosaic.TcCoe Idealize.SL.Sem Idealize.ShloMosaic.StableHlo

/-- The reference's last steps: from the numerator, the windows, the keys and the queries to the result. -/
def finish (Y Q K : FVec Ideal S8192x8x64 .f32) (A : IVec S8192 32) (M : FVec Ideal S512x512 .f32) (b : FVec Ideal S512 .f32) : FVec Ideal S8192x512 .f32 :=
  addf (Host.dotGeneral dot_S8192x512_S512x512_S8192x512_1_0_0_1_n_n none (shapeCast _ (Host.divf Y (broadcastInDim S8192x8x64 ![0, 1, 2] bcast_S8192x8x1_S8192x8x64_0_1_2 (addf (broadcastInDim S8192x8x1 ![0, 1] bcast_S8192x8_S8192x8x1_0_1 (Host.reduceAdd (mulf (Host.gather gather_S256x8x64_S8192x1_S8192x8x64_12_0_n_n_0_1_1864 (Host.scatterAdd scatter_S256x8x64_S8192x1_S8192x8x64_12_0_0_1 (broadcastInDim S256x8x64 ![] bcast_S_S256x8x64 (constant S_ .f32 0x00000000#32)) (broadcastInDim S8192x1 ![0] bcast_S8192_S8192x1_0 A) K) (broadcastInDim S8192x1 ![0] bcast_S8192_S8192x1_0 (wrapped A))) Q) (constant S_ .f32 0x00000000#32) reducesTo_S8192x8x64_S8192x8_d2 h_S_)) (broadcastInDim S8192x8x1 ![] bcast_S_S8192x8x1 (constant S_ .f32 0x358637BD#32))))) shapeCasts_S8192x8x64_S8192x512) M) (broadcastInDim S8192x512 ![0, 1] bcast_S1x512_S8192x512_0_1 (broadcastInDim S1x512 ![1] bcast_S512_S1x512_1 b))

variable {x : FVec Ideal S8192x512 .f32} {W : FVec Ideal S512x1536 .f32} {A : IVec S8192 32} {p : ℕ → ℕ → ℝ} {w : ℕ → BitVec 32}

/-- A row's windowed sum of reals is its window's total. -/
theorem windowed (hin : Inputs x W A p w) (f : ℕ → ℝ) (u : Fin 8192 → EReal) (hu : ∀ j, u j = (f j.val : EReal)) (r : Fin 8192) :
    (∑ j : Fin 8192, if A (ix1 j) = A (ix1 r) then u j else 0) = (total w f (w r.val) : EReal) := by
  rw [total_eq, coe_sum]
  refine Finset.sum_congr rfl fun j _ => ?_
  rw [coe_ite, hin.window, hin.window, hu]

theorem denominator_real (hin : Inputs x W A p w) (G Q : FVec Ideal S8192x8x64 .f32) (r : Fin 8192) (h : Fin 8)
    (hQ : ∀ d : Fin 64, Q (ix3 r h d) = (query p r.val h.val d : EReal))
    (hG : ∀ d : Fin 64, G (ix3 r h d) = (total w (fun j => key p j h.val d) (w r.val) : EReal)) :
    (∑ d : Fin 64, G (ix3 r h d) * Q (ix3 r h d)) = (mix p w r.val h.val 64 : EReal) := by
  unfold mix
  rw [coe_sum]
  refine Finset.sum_congr rfl fun d _ => ?_
  rw [hQ, hG, mul_comm, ← EReal.coe_mul]
  simp only [valueOne_at, mul_one]

theorem finish_entry (hin : Inputs x W A p w) (Y Q K : FVec Ideal S8192x8x64 .f32) (M : FVec Ideal S512x512 .f32) (b : FVec Ideal S512 .f32)
    (hQ : ∀ (r : Fin 8192) (h : Fin 8) (d : Fin 64), Q (ix3 r h d) = (query p r.val h.val d : EReal))
    (hK : ∀ (r : Fin 8192) (h : Fin 8) (d : Fin 64), K (ix3 r h d) = (key p r.val h.val d : EReal))
    (hY : ∀ (r : Fin 8192) (h : Fin 8) (e : Fin 64), Y (ix3 r h e) = (mix p w r.val h.val e.val : EReal))
    (r : Fin 8192) (o : Fin 512) :
    finish Y Q K A M b (ix2 r o)
      = (∑ k : Fin 512, Ideal.div (mix p w r.val (k.val / 64) (k.val % 64) : EReal) ((mix p w r.val (k.val / 64) 64 : EReal) + small) * M (ix2 k o)) + b (ix1 o) := by
  have hA : ∀ j : Fin 8192, 0 ≤ (A (ix1 j)).toInt ∧ (A (ix1 j)).toInt < 256 := fun j => by rw [hin.window]; exact hin.range j
  unfold finish
  rw [last_entry]
  refine congrArg (· + b (ix1 o)) (Finset.sum_congr rfl fun k _ => congrArg (· * M (ix2 k o)) ?_)
  rw [denominator_entry, hY, denominator_real hin _ Q r _ (hQ r _)]
  intro d
  rw [segment_keys K A hA]
  exact windowed hin (fun j => key p j (k.val / 64) d) _ (fun j => hK j _ d) r

variable (V0 : Valuation τ sig (Elt Ideal))

/-- The composed result's entry: the row's attention in every head, divided by its weights, times the output matrix, plus
    the bias. -/
theorem result_entry (hin : Inputs x W A p w) (hx : V0 (Proc.devRef .tc main_arg0) = x) (hW : V0 (Proc.devRef .tc main_arg1) = W)
    (hw : V0 (Proc.devRef .tc main_arg4) = A) (M : FVec Ideal S512x512 .f32) (b : FVec Ideal S512 .f32) (r : Fin 8192) (o : Fin 512) :
    finish (res_main_v206 V0) (res_main_v3 V0) (res_main_v6 V0) A M b (ix2 r o)
      = (∑ k : Fin 512, Ideal.div (mix p w r.val (k.val / 64) (k.val % 64) : EReal) ((mix p w r.val (k.val / 64) 64 : EReal) + small) * M (ix2 k o)) + b (ix1 o) := by
  have hA : ∀ j : Fin 8192, 0 ≤ (A (ix1 j)).toInt ∧ (A (ix1 j)).toInt < 256 := fun j => by rw [hin.window]; exact hin.range j
  have hP : ∀ (j : Fin 8192) (k : Fin 1536), (res_main_v0 V0 : FVec Ideal S8192x1536 .f32) (ix2 j k) = (p j.val k.val : EReal) :=
    fun j k => (product_entry V0 x W hx hW j k).trans (hin.product j k)
  generalize eP : (res_main_v0 V0 : FVec Ideal S8192x1536 .f32) = P at hP
  obtain ⟨Q, eQ⟩ : ∃ Q : FVec Ideal S8192x8x64 .f32, res_main_v3 V0 = Q := ⟨_, rfl⟩
  obtain ⟨K, eK⟩ : ∃ K : FVec Ideal S8192x8x64 .f32, res_main_v6 V0 = K := ⟨_, rfl⟩
  obtain ⟨U, eU⟩ : ∃ U : FVec Ideal S8192x8x64 .f32, res_main_v8 V0 = U := ⟨_, rfl⟩
  obtain ⟨Y, eY⟩ : ∃ Y : FVec Ideal S8192x8x64 .f32, res_main_v206 V0 = Y := ⟨_, rfl⟩
  have hQ := q_entry V0 P eP
  have hK := k_entry V0 P eP
  have hV := v_entry V0 P eP
  have hY := numerator_entry V0 Q K U A eQ eK eU hw hA
  rw [eQ] at hQ
  rw [eK] at hK
  rw [eU] at hV
  rw [eY] at hY
  rw [eQ, eK, eY]
  have hQ : ∀ (r : Fin 8192) (h : Fin 8) (d : Fin 64), Q (ix3 r h d) = (query p r.val h.val d : EReal) := fun r h d => by
    rw [hQ, hP, ← coe_max]; rfl
  have hK : ∀ (r : Fin 8192) (h : Fin 8) (d : Fin 64), K (ix3 r h d) = (key p r.val h.val d : EReal) := fun r h d => by
    rw [hK, hP, ← coe_max]; rfl
  have hV : ∀ (r : Fin 8192) (h : Fin 8) (e : Fin 64), U (ix3 r h e) = (valueOne p r.val h.val e.val : EReal) := fun r h e => by
    rw [hV, hP]; unfold valueOne; rw [if_pos e.isLt]
  refine finish_entry hin Y Q K M b hQ hK (fun r h e => ?_) r o
  rw [hY]
  unfold mix
  rw [coe_sum]
  refine Finset.sum_congr rfl fun d _ => ?_
  rw [hQ, EReal.coe_mul]
  refine congrArg _ (windowed hin (fun j => key p j h.val d * valueOne p j h.val e.val) (fun j => K (ix3 j h d) * U (ix3 j h e)) (fun j => ?_) r)
  rw [hK, hV, EReal.coe_mul]

end Cert.ReferenceIdeal.Result

end
-- ==== Proof.Precondition.lean ====
/- The precondition read: every input finite, the windows in range and in order; so the inputs' products are real and every
   window's rows are consecutive. -/
module

public import proofs.«01_k».proof.Pre_sorted_windows_finite_qkv
public import proofs.«01_k».proof.Proof.Attention
public import Idealize.ShloMosaic.Lib.IdealHost
public import Idealize.ShloMosaic.Lib.StableHlo.Predicate
public import Idealize.ShloMosaic.Lib.Affine

@[expose] public section

set_option maxRecDepth 16384

noncomputable section

namespace Cert.Precondition

open Idealize.ShloMosaic Cert.Pre_sorted_windows_finite_qkv

instance facts : Cert.Pre_sorted_windows_finite_qkv.Facts where
  slices_S8192_S1_0 := by decide
  slices_S8192_S8191_0 := by decide
  concatenates_S1_S8191_S8192_d0 := by decide
  bcast_S_S8192 := by decide
  bcast_S_S8192x512 := by decide
  bcast_S8192_S8192x1_0 := by decide
  bcast_S8192x1_S8192x512_0_1 := by decide
  transposes_S512x1536_S1536x512_1_0 := by decide
  bcast_S_S1536x512 := by decide
  concatenates_S8192x512_S1536x512_S9728x512_d0 := by decide

variable (x : FVec Ideal S8192x512 .f32) (W : FVec Ideal S512x1536 .f32) (M : FVec Ideal S512x512 .f32) (b : FVec Ideal S512 .f32) (A : IVec S8192 32)
  (o n : IVec S256 32)

/-- A number whose absolute value is below the largest is real. -/
theorem real_of_abs_lt (y : EReal) (h : BitVec.ofBool (decide (FloatOps.absf (F := Ideal) (φ := .f32) y < Ideal.ofBits .f32 0x7F800000#32)) = 1#1) :
    ∃ z : ℝ, y = (z : EReal) := by
  have h : max y (-y) < Ideal.ofBits .f32 0x7F800000#32 := of_decide_eq_true ((StableHlo.Predicate.ofBool_eq_one_iff _).1 h)
  have h := lt_of_lt_of_le h le_top
  rw [max_lt_iff] at h
  induction y with
  | bot => exact absurd h.2 (by simp)
  | top => exact absurd h.1 (lt_irrefl _)
  | coe z => exact ⟨z, rfl⟩

theorem at_row (h : fn x W M b A o n = fun _ => 1#1) (r : Fin 8192) (k : Fin 512) :
    (∃ z : ℝ, x (ix2 r k) = (z : EReal)) ∧ (0 ≤ (A (ix1 r)).toInt ∧ (A (ix1 r)).toInt < 256)
      ∧ (A (ix1 ⟨r.val - 1, by omega⟩)).toInt ≤ (A (ix1 r)).toInt := by
  have e : fn x W M b A o n (ix2 ⟨r.val, by omega⟩ k)
      = IntOp.andi (BitVec.ofBool (decide (FloatOps.absf (x (ix2 r k)) < Ideal.ofBits .f32 0x7F800000#32)))
        (IntOp.andi (IntOp.andi (IntOp.cmpi .sge (A (ix1 r)) 0#32) (IntOp.cmpi .slt (A (ix1 r)) 256#32))
          (IntOp.cmpi .sge (A (ix1 r)) (if h : r.val < 1 then A (ix1 r) else A (ix1 ⟨r.val - 1, by omega⟩)))) := by
    unfold fn fn_part1
    pointwise
  rw [h] at e
  have e := e.symm
  rw [IntOp.andi_eq_one, IntOp.andi_eq_one, IntOp.andi_eq_one] at e
  obtain ⟨e1, ⟨e2, e3⟩, e4⟩ := e
  refine ⟨real_of_abs_lt _ e1, ⟨?_, ?_⟩, ?_⟩
  · have q := (StableHlo.Predicate.ofBool_eq_one_iff _).1 e2
    have q := BitVec.sle_iff_toInt_le.1 q
    simpa using q
  · have q := (StableHlo.Predicate.ofBool_eq_one_iff _).1 e3
    have q := BitVec.slt_iff_toInt_lt.1 q
    simpa using q
  · have q := (StableHlo.Predicate.ofBool_eq_one_iff _).1 e4
    have q := BitVec.sle_iff_toInt_le.1 q
    split at q
    · next h0 =>
      have : (⟨r.val - 1, by omega⟩ : Fin 8192) = r := Fin.ext (by show r.val - 1 = r.val; omega)
      rw [this]
    · exact q

theorem at_column (h : fn x W M b A o n = fun _ => 1#1) (c : Fin 1536) (k : Fin 512) : ∃ z : ℝ, W (ix2 k c) = (z : EReal) := by
  have e : fn x W M b A o n (ix2 ⟨8192 + c.val, by omega⟩ k)
      = BitVec.ofBool (decide (FloatOps.absf (W (ix2 k c)) < Ideal.ofBits .f32 0x7F800000#32)) := by
    unfold fn fn_part1
    pointwise
  rw [h] at e
  exact real_of_abs_lt _ e.symm

/-- The windows as a function of any row number. -/
def windows (j : ℕ) : BitVec 32 := if h : j < 8192 then A (ix1 ⟨j, h⟩) else 0

theorem windows_mono (h : fn x W M b A o n = fun _ => 1#1) (i j : ℕ) (hij : i ≤ j) (hj : j < 8192) :
    (windows A i).toInt ≤ (windows A j).toInt := by
  induction j with
  | zero => obtain rfl : i = 0 := by omega
            exact le_rfl
  | succ j ih =>
    rcases Nat.lt_or_ge i (j + 1) with hlt | hge
    · refine (ih (by omega) (by omega)).trans ?_
      have q := (at_row x W M b A o n h ⟨j + 1, hj⟩ 0).2.2
      unfold windows
      rw [dif_pos hj, dif_pos (by omega : j < 8192)]
      exact q
    · obtain rfl : i = j + 1 := by omega
      exact le_rfl

/-- What the precondition gives. -/
theorem inputs (h : fn x W M b A o n = fun _ => 1#1) : ∃ (p : ℕ → ℕ → ℝ) (w : ℕ → BitVec 32), Attention.Inputs x W A p w := by
  choose fx hx using fun (r : Fin 8192) (k : Fin 512) => (at_row x W M b A o n h r k).1
  choose fW hW using fun (c : Fin 1536) (k : Fin 512) => at_column x W M b A o n h c k
  refine ⟨fun j c => if hj : j < 8192 then if hc : c < 1536 then ∑ i : Fin 512, fx ⟨j, hj⟩ i * fW ⟨c, hc⟩ i else 0 else 0, windows A, ?_, ?_, ?_, ?_⟩
  · intro j k
    rw [dif_pos j.isLt, dif_pos k.isLt, Sums.coe_sum]
    refine Finset.sum_congr rfl fun i _ => ?_
    rw [hx, hW, EReal.coe_mul]
  · intro j
    unfold windows
    rw [dif_pos j.isLt]
  · intro j
    unfold windows
    rw [dif_pos j.isLt]
    exact (at_row x W M b A o n h j 0).2.1
  · intro i j k hij hjk hk e
    refine BitVec.eq_of_toInt_eq (le_antisymm ?_ (windows_mono x W M b A o n h i j hij (by omega)))
    rw [e]
    exact windows_mono x W M b A o n h j k hjk hk

end Cert.Precondition

end
-- ==== Proof.lean ====
/- The assembled claims: the three programs' frames, the idealization, and the kernel's result equal to the reference's. -/
module

public import proofs.«01_k».proof.Defs
public import proofs.«01_k».proof.Proof.Kernel.Run
public import proofs.«01_k».proof.Proof.KernelIdeal.Value
public import proofs.«01_k».proof.Proof.ReferenceIdeal.Result
public import proofs.«01_k».proof.Proof.Precondition

@[expose] public section

namespace Cert.Proof

open Idealize.ShloMosaic Idealize.ShloMosaic.TcCoe Idealize.SL.Sem

theorem frame_kernel : Cert.quiescent_Kernel := fun m ρ _ =>
  (θ_run Cert.Kernel.defs _ _).mono (fun r h => ⟨fun c => (h.1 c).2, h.2⟩) (Cert.Kernel.Run.run (F := Bits) m ρ)

theorem frame_kernelIdeal : Cert.quiescent_KernelIdeal := fun m ρ _ =>
  (θ_run Cert.KernelIdeal.defs _ _).mono (fun r h => ⟨fun c => (h.1 c).2, h.2⟩) (Cert.KernelIdeal.Run.run (F := Ideal) m ρ)

theorem frame_referenceIdeal : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- From arguments that agree and satisfy the precondition, the reference's last array is the kernel's. -/
theorem same_result (m : (ℓ : Loc Cert.KernelIdeal.nD Cert.KernelIdeal.τ Cert.KernelIdeal.sig) → Buf (Elt Ideal) ℓ)
    (V0 : Valuation Cert.ReferenceIdeal.τ Cert.ReferenceIdeal.sig (Elt Ideal)) (c : Dev Cert.KernelIdeal.nD)
    (hpre : Cert.Pre_KernelIdeal_sorted_windows_finite_qkv m)
    (h0 : V0 (Proc.devRef .tc Cert.ReferenceIdeal.main_arg0) = m ((c.tc : Thread Cert.KernelIdeal.nD Cert.KernelIdeal.τ).loc Cert.KernelIdeal.main_arg0))
    (h1 : V0 (Proc.devRef .tc Cert.ReferenceIdeal.main_arg1) = m ((c.tc : Thread Cert.KernelIdeal.nD Cert.KernelIdeal.τ).loc Cert.KernelIdeal.main_arg1))
    (h4 : V0 (Proc.devRef .tc Cert.ReferenceIdeal.main_arg4) = m ((c.tc : Thread Cert.KernelIdeal.nD Cert.KernelIdeal.τ).loc Cert.KernelIdeal.main_arg4)) :
    Cert.ReferenceIdeal.Result.finish (Cert.ReferenceIdeal.Value.res_main_v206 V0) (Cert.ReferenceIdeal.Value.res_main_v3 V0)
        (Cert.ReferenceIdeal.Value.res_main_v6 V0) (m ((c.tc : Thread Cert.KernelIdeal.nD Cert.KernelIdeal.τ).loc Cert.KernelIdeal.main_arg4))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
      = Cert.KernelIdeal.Run.result m c := by
  obtain ⟨p, w, hin⟩ := Cert.Precondition.inputs _ _ _ _ _ _ _ (hpre c)
  funext i
  obtain ⟨r, o, rfl⟩ : ∃ (r : Fin 8192) (o : Fin 512), i = ix2 r o := ⟨_, _, Idealize.ShloMosaic.eq_ix2 i⟩
  exact (Cert.ReferenceIdeal.Result.result_entry V0 hin h0 h1 h4 _ _ r o).trans (Cert.KernelIdeal.Value.result_entry hin r o).symm

theorem algebraic : Cert.algebraic_KernelIdeal_ReferenceIdeal_pre_sorted_windows_finite_qkv := fun m ρ m' ρ' hpre hag =>
  ⟨fun c => Cert.KernelIdeal.Run.result m c,
    (θ_run Cert.KernelIdeal.defs _ _).mono (fun _ h => h.1) (Cert.KernelIdeal.Run.run (F := Ideal) m ρ),
    (θ_run Cert.ReferenceIdeal.defs _ _).mono
      (fun _ h c => ⟨(h c).1.trans (by
        obtain ⟨h0, h1, h2, h3, h4, -⟩ := hag c
        refine Eq.trans ?_ (same_result m (Idealize.ShloMosaic.StableHlo.launchContents m' c) c hpre h0 h1 h4)
        rw [← h4, ← h2, ← h3]
        rfl), (h c).2⟩)
      (Cert.ReferenceIdeal.Value.run (F := Ideal) m' ρ')⟩

theorem claim : Cert.Claim :=
  ⟨inferInstance, inferInstance, inferInstance, inferInstance, frame_kernel, frame_kernelIdeal, fun m ρ _ => frame_kernelIdeal m ρ trivial,
    frame_referenceIdeal, fun m ρ _ => frame_referenceIdeal m ρ trivial, trivial, algebraic⟩

end Cert.Proof

end
